-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_off_ties [hPre_off_ties : Cert.Pre_off_ties.Facts] (m : (ℓ : Loc Cert.KernelIdeal.nD Cert.KernelIdeal.τ Cert.KernelIdeal.sig) → Buf (Elt Ideal) ℓ) : Prop :=
  ∀ c : Dev Cert.KernelIdeal.nD,
    (Cert.Pre_off_ties.fn (F := Ideal) (m ((c.tc : Thread Cert.KernelIdeal.nD Cert.KernelIdeal.τ).loc Cert.KernelIdeal.main_arg0))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_off_ties [hPre_off_ties : Cert.Pre_off_ties.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_off_ties.fn (F := Ideal) (m ((c.tc : Thread Cert.ReferenceIdeal.nD Cert.ReferenceIdeal.τ).loc Cert.ReferenceIdeal.main_arg0))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_KernelIdeal_pre_off_ties [hKernelIdeal : Cert.KernelIdeal.Facts] [hPre_off_ties : Cert.Pre_off_ties.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_off_ties m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def quiescent_ReferenceIdeal_pre_off_ties [hReferenceIdeal : Cert.ReferenceIdeal.Facts] [hPre_off_ties : Cert.Pre_off_ties.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_off_ties m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal_on_off_ties [hKernelIdeal : Cert.KernelIdeal.Facts] [hReferenceIdeal : Cert.ReferenceIdeal.Facts] [hOn_off_ties : Cert.On_off_ties.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          (∀ i : (⟨4, ![8, 96, 224, 224]⟩ : Shape).Idx, (Cert.On_off_ties.fn (F := Ideal) (m ((c.tc : Thread Cert.KernelIdeal.nD Cert.KernelIdeal.τ).loc Cert.KernelIdeal.main_arg0))) i = 1#1 → r.2.mem ((c.tc : Thread Cert.KernelIdeal.nD Cert.KernelIdeal.τ).loc Cert.KernelIdeal.main_v3) i = v0 c i)
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          (∀ i : (⟨4, ![8, 96, 224, 224]⟩ : Shape).Idx, (Cert.On_off_ties.fn (F := Ideal) (m ((c.tc : Thread Cert.KernelIdeal.nD Cert.KernelIdeal.τ).loc Cert.KernelIdeal.main_arg0))) i = 1#1 → r.2.mem ((c.tc : Thread Cert.ReferenceIdeal.nD Cert.ReferenceIdeal.τ).loc Cert.ReferenceIdeal.main_v35) i = v0 c i)
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def algebraic_KernelIdeal_ReferenceIdeal_pre_off_ties [hKernelIdeal : Cert.KernelIdeal.Facts] [hReferenceIdeal : Cert.ReferenceIdeal.Facts] [hPre_off_ties : Cert.Pre_off_ties.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_off_ties m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v35) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_off_ties : Cert.Pre_off_ties.Facts) (hOn_off_ties : Cert.On_off_ties.Facts),
    quiescent_Kernel (hKernel := hKernel)
    ∧ quiescent_KernelIdeal (hKernelIdeal := hKernelIdeal)
    ∧ quiescent_KernelIdeal_pre_off_ties (hKernelIdeal := hKernelIdeal) (hPre_off_ties := hPre_off_ties)
    ∧ quiescent_ReferenceIdeal (hReferenceIdeal := hReferenceIdeal)
    ∧ quiescent_ReferenceIdeal_pre_off_ties (hReferenceIdeal := hReferenceIdeal) (hPre_off_ties := hPre_off_ties)
    ∧ preserves_Kernel_KernelIdeal
    ∧ algebraic_KernelIdeal_ReferenceIdeal_on_off_ties (hKernelIdeal := hKernelIdeal) (hReferenceIdeal := hReferenceIdeal) (hOn_off_ties := hOn_off_ties)
    ∧ algebraic_KernelIdeal_ReferenceIdeal_pre_off_ties (hKernelIdeal := hKernelIdeal) (hReferenceIdeal := hReferenceIdeal) (hPre_off_ties := hPre_off_ties)
-- ==== On_off_ties.lean ====
abbrev S8x96x224x224 : Shape := ⟨4, ![8, 96, 224, 224]⟩
abbrev S8 : Shape := ⟨1, ![8]⟩
abbrev S_ : Shape := ⟨0, ![]⟩
abbrev S8x1x1x1 : Shape := ⟨4, ![8, 1, 1, 1]⟩
abbrev S8x96x224x224x1 : Shape := ⟨5, ![8, 96, 224, 224, 1]⟩
abbrev S1x1x1x1x8 : Shape := ⟨5, ![1, 1, 1, 1, 8]⟩
abbrev S8x96x224x224x8 : Shape := ⟨5, ![8, 96, 224, 224, 8]⟩

class Facts : Prop where
  bcast_S_S8x96x224x224 : S_.BroadcastsInDim S8x96x224x224 (![] : Fin 0 → Fin S8x96x224x224.rank)
  reducesTo_S8x96x224x224_S8_d1_2_3 : S8x96x224x224.ReducesTo [1, 2, 3] S8
  h_S_ : 0 < S_.numel
  bcast_S8_S8x1x1x1_0 : S8.BroadcastsInDim S8x1x1x1 (![0] : Fin 1 → Fin S8x1x1x1.rank)
  bcast_S_S8x1x1x1 : S_.BroadcastsInDim S8x1x1x1 (![] : Fin 0 → Fin S8x1x1x1.rank)
  bcast_S8x1x1x1_S8x96x224x224_0_1_2_3 : S8x1x1x1.BroadcastsInDim S8x96x224x224 (![0, 1, 2, 3] : Fin 4 → Fin S8x96x224x224.rank)
  bcast_S8x96x224x224_S8x96x224x224x1_0_1_2_3 : S8x96x224x224.BroadcastsInDim S8x96x224x224x1 (![0, 1, 2, 3] : Fin 4 → Fin S8x96x224x224x1.rank)
  bcast_S8_S1x1x1x1x8_4 : S8.BroadcastsInDim S1x1x1x1x8 (![4] : Fin 1 → Fin S1x1x1x1x8.rank)
  bcast_S8x96x224x224x1_S8x96x224x224x8_0_1_2_3_4 : S8x96x224x224x1.BroadcastsInDim S8x96x224x224x8 (![0, 1, 2, 3, 4] : Fin 5 → Fin S8x96x224x224x8.rank)
  bcast_S1x1x1x1x8_S8x96x224x224x8_0_1_2_3_4 : S1x1x1x1x8.BroadcastsInDim S8x96x224x224x8 (![0, 1, 2, 3, 4] : Fin 5 → Fin S8x96x224x224x8.rank)
  reducesTo_S8x96x224x224x8_S8x96x224x224_d4 : S8x96x224x224x8.ReducesTo [4] S8x96x224x224

variable [Facts]

noncomputable abbrev lit0 : Fin 8 → BitVec 32 := fun
  | 0 => 0xC01938EF#32 | 1 => 0xBFEB2FEC#32 | 2 => 0xBFB6594B#32 | 3 => 0xBF9075F7#32 | 4 => 0xBF552546#32 | 5 => 0xBF0E83E4#32 | 6 => 0xBE978D50#32 | 7 => 0x00000000#32
  | _ => 0#32

def fn_part1 {F : FTy → Type} [FloatOps F] (main_cst : FVec F S8 .f32) (main_v4 : IVec S8x1x1x1 1) (main_v10 : FVec F S8x96x224x224 .f32) (main_v16 : FVec F S8x1x1x1 .f32) : IVec S8x96x224x224 1 :=
  let main_cst_5 : FVec F S_ .f32 := constant S_ .f32 0x2B8CBCCC#32
  let main_v17 : FVec F S8x1x1x1 .f32 := broadcastInDim S8x1x1x1 ![] bcast_S_S8x1x1x1 main_cst_5
  let main_v18 : FVec F S8x1x1x1 .f32 := addf main_v16 main_v17
  let main_v19 : FVec F S8x96x224x224 .f32 := broadcastInDim S8x96x224x224 ![0, 1, 2, 3] bcast_S8x1x1x1_S8x96x224x224_0_1_2_3 main_v18
  let main_v20 : FVec F S8x96x224x224 .f32 := Host.divf main_v10 main_v19
  let main_v21 : FVec F S8x96x224x224x1 .f32 := broadcastInDim S8x96x224x224x1 ![0, 1, 2, 3] bcast_S8x96x224x224_S8x96x224x224x1_0_1_2_3 main_v20
  let main_v22 : FVec F S1x1x1x1x8 .f32 := broadcastInDim S1x1x1x1x8 ![4] bcast_S8_S1x1x1x1x8_4 main_cst
  let main_v23 : FVec F S8x96x224x224x8 .f32 := broadcastInDim S8x96x224x224x8 ![0, 1, 2, 3, 4] bcast_S8x96x224x224x1_S8x96x224x224x8_0_1_2_3_4 main_v21
  let main_v24 : FVec F S8x96x224x224x8 .f32 := broadcastInDim S8x96x224x224x8 ![0, 1, 2, 3, 4] bcast_S1x1x1x1x8_S8x96x224x224x8_0_1_2_3_4 main_v22
  let main_v25 : IVec S8x96x224x224x8 1 := cmpf .oeq main_v23 main_v24
  let main_c_6 : IVec S_ 1 := constantI S_ 1 0#1
  let main_v26 : IVec S8x96x224x224 1 := (fun x v => Host.reduce IntOp.ori x v reducesTo_S8x96x224x224x8_S8x96x224x224_d4 h_S_) main_v25 main_c_6
  let main_cst_7 : FVec F S_ .f32 := constant S_ .f32 0x2B8CBCCC#32
  let main_v27 : FVec F S8x1x1x1 .f32 := broadcastInDim S8x1x1x1 ![] bcast_S_S8x1x1x1 main_cst_7
  let main_v28 : IVec S8x1x1x1 1 := cmpf .olt main_v16 main_v27
  let main_v29 : IVec S8x96x224x224 1 := noti main_v26
  let main_v30 : IVec S8x96x224x224 1 := broadcastInDim S8x96x224x224 ![0, 1, 2, 3] bcast_S8x1x1x1_S8x96x224x224_0_1_2_3 main_v28
  let main_v31 : IVec S8x96x224x224 1 := ori main_v30 main_v29
  let main_v32 : IVec S8x96x224x224 1 := broadcastInDim S8x96x224x224 ![0, 1, 2, 3] bcast_S8x1x1x1_S8x96x224x224_0_1_2_3 main_v4
  let main_v33 : IVec S8x96x224x224 1 := andi main_v32 main_v31
  main_v33

def fn {F : FTy → Type} [FloatOps F] (main_arg0 : FVec F S8x96x224x224 .f32) : IVec S8x96x224x224 1 :=
  let main_cst : FVec F S8 .f32 := fun i => FloatOps.ofBits .f32 (lit0 (S8.rowMajor i))
  let main_v0 : FVec F S8x96x224x224 .f32 := Host.absf main_arg0
  let main_cst_0 : FVec F S_ .f32 := constant S_ .f32 0x7F800000#32
  let main_v1 : FVec F S8x96x224x224 .f32 := broadcastInDim S8x96x224x224 ![] bcast_S_S8x96x224x224 main_cst_0
  let main_v2 : IVec S8x96x224x224 1 := cmpf .olt main_v0 main_v1
  let main_c : IVec S_ 1 := constantI S_ 1 1#1
  let main_v3 : IVec S8 1 := (fun x v => Host.reduce IntOp.andi x v reducesTo_S8x96x224x224_S8_d1_2_3 h_S_) main_v2 main_c
  let main_v4 : IVec S8x1x1x1 1 := broadcastInDim S8x1x1x1 ![0] bcast_S8_S8x1x1x1_0 main_v3
  let main_cst_1 : FVec F S_ .f32 := constant S_ .f32 0x00000000#32
  let main_v5 : FVec F S8 .f32 := (fun x v => Host.reduceAdd x v reducesTo_S8x96x224x224_S8_d1_2_3 h_S_) main_arg0 main_cst_1
  let main_v6 : FVec F S8x1x1x1 .f32 := broadcastInDim S8x1x1x1 ![0] bcast_S8_S8x1x1x1_0 main_v5
  let main_cst_2 : FVec F S_ .f32 := constant S_ .f32 0x4A930000#32
  let main_v7 : FVec F S8x1x1x1 .f32 := broadcastInDim S8x1x1x1 ![] bcast_S_S8x1x1x1 main_cst_2
  let main_v8 : FVec F S8x1x1x1 .f32 := Host.divf main_v6 main_v7
  let main_v9 : FVec F S8x96x224x224 .f32 := broadcastInDim S8x96x224x224 ![0, 1, 2, 3] bcast_S8x1x1x1_S8x96x224x224_0_1_2_3 main_v8
  let main_v10 : FVec F S8x96x224x224 .f32 := subf main_arg0 main_v9
  let main_v11 : FVec F S8x96x224x224 .f32 := mulf main_v10 main_v10
  let main_cst_3 : FVec F S_ .f32 := constant S_ .f32 0x00000000#32
  let main_v12 : FVec F S8 .f32 := (fun x v => Host.reduceAdd x v reducesTo_S8x96x224x224_S8_d1_2_3 h_S_) main_v11 main_cst_3
  let main_v13 : FVec F S8x1x1x1 .f32 := broadcastInDim S8x1x1x1 ![0] bcast_S8_S8x1x1x1_0 main_v12
  let main_cst_4 : FVec F S_ .f32 := constant S_ .f32 0x4A92FFFE#32
  let main_v14 : FVec F S8x1x1x1 .f32 := broadcastInDim S8x1x1x1 ![] bcast_S_S8x1x1x1 main_cst_4
  let main_v15 : FVec F S8x1x1x1 .f32 := Host.divf main_v13 main_v14
  let main_v16 : FVec F S8x1x1x1 .f32 := Host.sqrt main_v15
  fn_part1 (F := F) main_cst main_v4 main_v10 main_v16
-- ==== Pre_off_ties.lean ====
abbrev S8x96x224x224 : Shape := ⟨4, ![8, 96, 224, 224]⟩
abbrev S8 : Shape := ⟨1, ![8]⟩
abbrev S_ : Shape := ⟨0, ![]⟩
abbrev S8x1x1x1 : Shape := ⟨4, ![8, 1, 1, 1]⟩
abbrev S8x96x224x224x1 : Shape := ⟨5, ![8, 96, 224, 224, 1]⟩
abbrev S1x1x1x1x8 : Shape := ⟨5, ![1, 1, 1, 1, 8]⟩
abbrev S8x96x224x224x8 : Shape := ⟨5, ![8, 96, 224, 224, 8]⟩

class Facts : Prop where
  bcast_S_S8x96x224x224 : S_.BroadcastsInDim S8x96x224x224 (![] : Fin 0 → Fin S8x96x224x224.rank)
  reducesTo_S8x96x224x224_S8_d1_2_3 : S8x96x224x224.ReducesTo [1, 2, 3] S8
  h_S_ : 0 < S_.numel
  bcast_S8_S8x1x1x1_0 : S8.BroadcastsInDim S8x1x1x1 (![0] : Fin 1 → Fin S8x1x1x1.rank)
  bcast_S_S8x1x1x1 : S_.BroadcastsInDim S8x1x1x1 (![] : Fin 0 → Fin S8x1x1x1.rank)
  bcast_S8x1x1x1_S8x96x224x224_0_1_2_3 : S8x1x1x1.BroadcastsInDim S8x96x224x224 (![0, 1, 2, 3] : Fin 4 → Fin S8x96x224x224.rank)
  bcast_S8x96x224x224_S8x96x224x224x1_0_1_2_3 : S8x96x224x224.BroadcastsInDim S8x96x224x224x1 (![0, 1, 2, 3] : Fin 4 → Fin S8x96x224x224x1.rank)
  bcast_S8_S1x1x1x1x8_4 : S8.BroadcastsInDim S1x1x1x1x8 (![4] : Fin 1 → Fin S1x1x1x1x8.rank)
  bcast_S8x96x224x224x1_S8x96x224x224x8_0_1_2_3_4 : S8x96x224x224x1.BroadcastsInDim S8x96x224x224x8 (![0, 1, 2, 3, 4] : Fin 5 → Fin S8x96x224x224x8.rank)
  bcast_S1x1x1x1x8_S8x96x224x224x8_0_1_2_3_4 : S1x1x1x1x8.BroadcastsInDim S8x96x224x224x8 (![0, 1, 2, 3, 4] : Fin 5 → Fin S8x96x224x224x8.rank)
  reducesTo_S8x96x224x224x8_S8x96x224x224_d4 : S8x96x224x224x8.ReducesTo [4] S8x96x224x224

variable [Facts]

noncomputable abbrev lit0 : Fin 8 → BitVec 32 := fun
  | 0 => 0xC01938EF#32 | 1 => 0xBFEB2FEC#32 | 2 => 0xBFB6594B#32 | 3 => 0xBF9075F7#32 | 4 => 0xBF552546#32 | 5 => 0xBF0E83E4#32 | 6 => 0xBE978D50#32 | 7 => 0x00000000#32
  | _ => 0#32

def fn_part1 {F : FTy → Type} [FloatOps F] (main_cst : FVec F S8 .f32) (main_v4 : IVec S8x1x1x1 1) (main_v10 : FVec F S8x96x224x224 .f32) (main_v16 : FVec F S8x1x1x1 .f32) : IVec S8x96x224x224 1 :=
  let main_cst_5 : FVec F S_ .f32 := constant S_ .f32 0x2B8CBCCC#32
  let main_v17 : FVec F S8x1x1x1 .f32 := broadcastInDim S8x1x1x1 ![] bcast_S_S8x1x1x1 main_cst_5
  let main_v18 : FVec F S8x1x1x1 .f32 := addf main_v16 main_v17
  let main_v19 : FVec F S8x96x224x224 .f32 := broadcastInDim S8x96x224x224 ![0, 1, 2, 3] bcast_S8x1x1x1_S8x96x224x224_0_1_2_3 main_v18
  let main_v20 : FVec F S8x96x224x224 .f32 := Host.divf main_v10 main_v19
  let main_v21 : FVec F S8x96x224x224x1 .f32 := broadcastInDim S8x96x224x224x1 ![0, 1, 2, 3] bcast_S8x96x224x224_S8x96x224x224x1_0_1_2_3 main_v20
  let main_v22 : FVec F S1x1x1x1x8 .f32 := broadcastInDim S1x1x1x1x8 ![4] bcast_S8_S1x1x1x1x8_4 main_cst
  let main_v23 : FVec F S8x96x224x224x8 .f32 := broadcastInDim S8x96x224x224x8 ![0, 1, 2, 3, 4] bcast_S8x96x224x224x1_S8x96x224x224x8_0_1_2_3_4 main_v21
  let main_v24 : FVec F S8x96x224x224x8 .f32 := broadcastInDim S8x96x224x224x8 ![0, 1, 2, 3, 4] bcast_S1x1x1x1x8_S8x96x224x224x8_0_1_2_3_4 main_v22
  let main_v25 : IVec S8x96x224x224x8 1 := cmpf .oeq main_v23 main_v24
  let main_c_6 : IVec S_ 1 := constantI S_ 1 0#1
  let main_v26 : IVec S8x96x224x224 1 := (fun x v => Host.reduce IntOp.ori x v reducesTo_S8x96x224x224x8_S8x96x224x224_d4 h_S_) main_v25 main_c_6
  let main_cst_7 : FVec F S_ .f32 := constant S_ .f32 0x2B8CBCCC#32
  let main_v27 : FVec F S8x1x1x1 .f32 := broadcastInDim S8x1x1x1 ![] bcast_S_S8x1x1x1 main_cst_7
  let main_v28 : IVec S8x1x1x1 1 := cmpf .olt main_v16 main_v27
  let main_v29 : IVec S8x96x224x224 1 := noti main_v26
  let main_v30 : IVec S8x96x224x224 1 := broadcastInDim S8x96x224x224 ![0, 1, 2, 3] bcast_S8x1x1x1_S8x96x224x224_0_1_2_3 main_v28
  let main_v31 : IVec S8x96x224x224 1 := ori main_v30 main_v29
  let main_v32 : IVec S8x96x224x224 1 := broadcastInDim S8x96x224x224 ![0, 1, 2, 3] bcast_S8x1x1x1_S8x96x224x224_0_1_2_3 main_v4
  let main_v33 : IVec S8x96x224x224 1 := andi main_v32 main_v31
  main_v33

def fn {F : FTy → Type} [FloatOps F] (main_arg0 : FVec F S8x96x224x224 .f32) : IVec S8x96x224x224 1 :=
  let main_cst : FVec F S8 .f32 := fun i => FloatOps.ofBits .f32 (lit0 (S8.rowMajor i))
  let main_v0 : FVec F S8x96x224x224 .f32 := Host.absf main_arg0
  let main_cst_0 : FVec F S_ .f32 := constant S_ .f32 0x7F800000#32
  let main_v1 : FVec F S8x96x224x224 .f32 := broadcastInDim S8x96x224x224 ![] bcast_S_S8x96x224x224 main_cst_0
  let main_v2 : IVec S8x96x224x224 1 := cmpf .olt main_v0 main_v1
  let main_c : IVec S_ 1 := constantI S_ 1 1#1
  let main_v3 : IVec S8 1 := (fun x v => Host.reduce IntOp.andi x v reducesTo_S8x96x224x224_S8_d1_2_3 h_S_) main_v2 main_c
  let main_v4 : IVec S8x1x1x1 1 := broadcastInDim S8x1x1x1 ![0] bcast_S8_S8x1x1x1_0 main_v3
  let main_cst_1 : FVec F S_ .f32 := constant S_ .f32 0x00000000#32
  let main_v5 : FVec F S8 .f32 := (fun x v => Host.reduceAdd x v reducesTo_S8x96x224x224_S8_d1_2_3 h_S_) main_arg0 main_cst_1
  let main_v6 : FVec F S8x1x1x1 .f32 := broadcastInDim S8x1x1x1 ![0] bcast_S8_S8x1x1x1_0 main_v5
  let main_cst_2 : FVec F S_ .f32 := constant S_ .f32 0x4A930000#32
  let main_v7 : FVec F S8x1x1x1 .f32 := broadcastInDim S8x1x1x1 ![] bcast_S_S8x1x1x1 main_cst_2
  let main_v8 : FVec F S8x1x1x1 .f32 := Host.divf main_v6 main_v7
  let main_v9 : FVec F S8x96x224x224 .f32 := broadcastInDim S8x96x224x224 ![0, 1, 2, 3] bcast_S8x1x1x1_S8x96x224x224_0_1_2_3 main_v8
  let main_v10 : FVec F S8x96x224x224 .f32 := subf main_arg0 main_v9
  let main_v11 : FVec F S8x96x224x224 .f32 := mulf main_v10 main_v10
  let main_cst_3 : FVec F S_ .f32 := constant S_ .f32 0x00000000#32
  let main_v12 : FVec F S8 .f32 := (fun x v => Host.reduceAdd x v reducesTo_S8x96x224x224_S8_d1_2_3 h_S_) main_v11 main_cst_3
  let main_v13 : FVec F S8x1x1x1 .f32 := broadcastInDim S8x1x1x1 ![0] bcast_S8_S8x1x1x1_0 main_v12
  let main_cst_4 : FVec F S_ .f32 := constant S_ .f32 0x4A92FFFE#32
  let main_v14 : FVec F S8x1x1x1 .f32 := broadcastInDim S8x1x1x1 ![] bcast_S_S8x1x1x1 main_cst_4
  let main_v15 : FVec F S8x1x1x1 .f32 := Host.divf main_v13 main_v14
  let main_v16 : FVec F S8x1x1x1 .f32 := Host.sqrt main_v15
  fn_part1 (F := F) main_cst main_v4 main_v10 main_v16
-- ==== Kernel.lean ====
abbrev S8x96x224x224 : Shape := ⟨4, ![8, 96, 224, 224]⟩
abbrev S8x37632x128 : Shape := ⟨3, ![8, 37632, 128]⟩
abbrev S8x1x16 : Shape := ⟨3, ![8, 1, 16]⟩
abbrev S1x4704x128 : Shape := ⟨3, ![1, 4704, 128]⟩
abbrev S1x1x16 : Shape := ⟨3, ![1, 1, 16]⟩
abbrev S2 : Shape := ⟨1, ![2]⟩
abbrev S1 : Shape := ⟨1, ![1]⟩
abbrev S4704x128 : Shape := ⟨2, ![4704, 128]⟩
abbrev S1x1x1 : Shape := ⟨3, ![1, 1, 1]⟩

abbrev nBuf : Space → Nat
  | .hbm => 5
  | .vmem => 6
  | .smem => 4
  | _ => 0

abbrev bufTy : (tb : Table) → Fin (tcTables nBuf tb) → BufTy
  | .hbm, ⟨0, _⟩ => ⟨S8x96x224x224, .f32⟩
  | .hbm, ⟨1, _⟩ => ⟨S8x37632x128, .f32⟩
  | .hbm, ⟨2, _⟩ => ⟨S8x1x16, .f32⟩
  | .hbm, ⟨3, _⟩ => ⟨S8x37632x128, .f32⟩
  | .hbm, ⟨4, _⟩ => ⟨S8x96x224x224, .f32⟩
  | .local _ .vmem, ⟨0, _⟩ => ⟨S1x4704x128, .f32⟩
  | .local _ .vmem, ⟨1, _⟩ => ⟨S1x4704x128, .f32⟩
  | .local _ .vmem, ⟨2, _⟩ => ⟨S1x4704x128, .f32⟩
  | .local _ .vmem, ⟨3, _⟩ => ⟨S1x4704x128, .f32⟩
  | .local _ .vmem, ⟨4, _⟩ => ⟨S1x4704x128, .f32⟩
  | .local _ .vmem, ⟨5, _⟩ => ⟨S1x4704x128, .f32⟩
  | .local _ .smem, ⟨0, _⟩ => ⟨S1x1x16, .f32⟩
  | .local _ .smem, ⟨1, _⟩ => ⟨S1x1x16, .f32⟩
  | .local _ .smem, ⟨2, _⟩ => ⟨S2, .f32⟩
  | .local _ .smem, ⟨3, _⟩ => ⟨S8x1x16, .f32⟩
  | _, _ => ⟨S8x96x224x224, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .smem, ⟨0, _⟩ => true
  | .smem, ⟨1, _⟩ => true
  | .smem, ⟨2, _⟩ => true
  | .smem, ⟨3, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev cc0_stg0_0 : Ref sig .tc := ⟨.vmem, 0, rfl⟩
abbrev cc0_stg0_1 : Ref sig .tc := ⟨.vmem, 1, rfl⟩
abbrev cc1_stg1_0 : Ref sig .tc := ⟨.vmem, 2, rfl⟩
abbrev cc1_stg1_1 : Ref sig .tc := ⟨.vmem, 3, rfl⟩
abbrev cc1_stg2_0 : Ref sig .tc := ⟨.vmem, 4, rfl⟩
abbrev cc1_stg2_1 : Ref sig .tc := ⟨.vmem, 5, rfl⟩
abbrev cc0_stg1_0 : Ref sig .tc := ⟨.smem, 0, rfl⟩
abbrev cc0_stg1_1 : Ref sig .tc := ⟨.smem, 1, rfl⟩
abbrev cc0_scratch0 : Ref sig .tc := ⟨.smem, 2, rfl⟩
abbrev cc1_stg0_0 : Ref sig .tc := ⟨.smem, 3, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem1_0 : DmaSem sig := 5
abbrev cc1_sem1_1 : DmaSem sig := 6
abbrev cc1_sem2_0 : DmaSem sig := 7
abbrev cc1_sem2_1 : DmaSem sig := 8

abbrev nD : Nat := 1
abbrev τ : Topo := Topo.v7x

variable {F : FTy → Type} [FloatOps F]

abbrev grid0 : Pipeline.Grid := ⟨2, ![8, 8], ![false, false]⟩

def k0_cond2 (i : grid0.Coords) : BitVec 1 :=
  let arg1 : BitVec 32 := BitVec.ofNat 32 (i 1).val
  let c7_i32 : BitVec 32 := 7#32
  let v20 : BitVec 1 := Scalar.cmpi .eq arg1 c7_i32
  let v21 : BitVec 32 := Scalar.extui v20
  let c0_i32_7 : BitVec 32 := 0#32
  let v22 : BitVec 1 := Scalar.cmpi .ne v21 c0_i32_7
  v22

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x4704x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .smem S1x1x16 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev grid1 : Pipeline.Grid := ⟨2, ![8, 8], ![false, false]⟩

def k1_off1 (i : grid1.Coords) : Fin 3 → Nat :=
  let arg0 : BitVec 32 := BitVec.ofNat 32 (i 0).val
  let v0 : Index := Scalar.indexCast arg0
  let c0 : Index := 0#32
  let c15 : Index := 15#32
  ![v0.toNat, 0, 15]
def k1_off2 (i : grid1.Coords) : Fin 3 → Nat :=
  let arg0 : BitVec 32 := BitVec.ofNat 32 (i 0).val
  let v7 : Index := Scalar.indexCast arg0
  let c0_3 : Index := 0#32
  let c0_4 : Index := 0#32
  ![v7.toNat, 0, 0]
def k1_off3 (i : grid1.Coords) : Fin 3 → Nat :=
  let arg0 : BitVec 32 := BitVec.ofNat 32 (i 0).val
  let v11 : Index := Scalar.indexCast arg0
  let c0_5 : Index := 0#32
  let c8 : Index := 8#32
  ![v11.toNat, 0, 8]
def k1_off4 (i : grid1.Coords) : Fin 3 → Nat :=
  let arg0 : BitVec 32 := BitVec.ofNat 32 (i 0).val
  let v16 : Index := Scalar.indexCast arg0
  let c0_6 : Index := 0#32
  let c1 : Index := 1#32
  ![v16.toNat, 0, 1]
def k1_off5 (i : grid1.Coords) : Fin 3 → Nat :=
  let arg0 : BitVec 32 := BitVec.ofNat 32 (i 0).val
  let v20 : Index := Scalar.indexCast arg0
  let c0_7 : Index := 0#32
  let c9 : Index := 9#32
  ![v20.toNat, 0, 9]
def k1_off6 (i : grid1.Coords) : Fin 3 → Nat :=
  let arg0 : BitVec 32 := BitVec.ofNat 32 (i 0).val
  let v26 : Index := Scalar.indexCast arg0
  let c0_9 : Index := 0#32
  let c2 : Index := 2#32
  ![v26.toNat, 0, 2]
def k1_off7 (i : grid1.Coords) : Fin 3 → Nat :=
  let arg0 : BitVec 32 := BitVec.ofNat 32 (i 0).val
  let v30 : Index := Scalar.indexCast arg0
  let c0_10 : Index := 0#32
  let c10 : Index := 10#32
  ![v30.toNat, 0, 10]
def k1_off8 (i : grid1.Coords) : Fin 3 → Nat :=
  let arg0 : BitVec 32 := BitVec.ofNat 32 (i 0).val
  let v36 : Index := Scalar.indexCast arg0
  let c0_12 : Index := 0#32
  let c3 : Index := 3#32
  ![v36.toNat, 0, 3]
def k1_off9 (i : grid1.Coords) : Fin 3 → Nat :=
  let arg0 : BitVec 32 := BitVec.ofNat 32 (i 0).val
  let v40 : Index := Scalar.indexCast arg0
  let c0_13 : Index := 0#32
  let c11 : Index := 11#32
  ![v40.toNat, 0, 11]
def k1_off10 (i : grid1.Coords) : Fin 3 → Nat :=
  let arg0 : BitVec 32 := BitVec.ofNat 32 (i 0).val
  let v46 : Index := Scalar.indexCast arg0
  let c0_15 : Index := 0#32
  let c4 : Index := 4#32
  ![v46.toNat, 0, 4]
def k1_off11 (i : grid1.Coords) : Fin 3 → Nat :=
  let arg0 : BitVec 32 := BitVec.ofNat 32 (i 0).val
  let v50 : Index := Scalar.indexCast arg0
  let c0_16 : Index := 0#32
  let c12 : Index := 12#32
  ![v50.toNat, 0, 12]
def k1_off12 (i : grid1.Coords) : Fin 3 → Nat :=
  let arg0 : BitVec 32 := BitVec.ofNat 32 (i 0).val
  let v56 : Index := Scalar.indexCast arg0
  let c0_18 : Index := 0#32
  let c5 : Index := 5#32
  ![v56.toNat, 0, 5]
def k1_off13 (i : grid1.Coords) : Fin 3 → Nat :=
  let arg0 : BitVec 32 := BitVec.ofNat 32 (i 0).val
  let v60 : Index := Scalar.indexCast arg0
  let c0_19 : Index := 0#32
  let c13 : Index := 13#32
  ![v60.toNat, 0, 13]
def k1_off14 (i : grid1.Coords) : Fin 3 → Nat :=
  let arg0 : BitVec 32 := BitVec.ofNat 32 (i 0).val
  let v66 : Index := Scalar.indexCast arg0
  let c0_21 : Index := 0#32
  let c6 : Index := 6#32
  ![v66.toNat, 0, 6]
def k1_off15 (i : grid1.Coords) : Fin 3 → Nat :=
  let arg0 : BitVec 32 := BitVec.ofNat 32 (i 0).val
  let v70 : Index := Scalar.indexCast arg0
  let c0_22 : Index := 0#32
  let c14 : Index := 14#32
  ![v70.toNat, 0, 14]
def k1_off16 (i : grid1.Coords) : Fin 3 → Nat :=
  let arg0 : BitVec 32 := BitVec.ofNat 32 (i 0).val
  let v76 : Index := Scalar.indexCast arg0
  let c0_24 : Index := 0#32
  let c7 : Index := 7#32
  ![v76.toNat, 0, 7]
def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage1_0 : Fin 1 → Memref sig .tc .smem S8x1x16 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false, false]

abbrev stage1_1 : Fin 2 → Memref sig .tc .vmem S1x4704x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S1x4704x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]
-- ==== ReferenceIdeal.lean ====
abbrev S8x96x224x224 : Shape := ⟨4, ![8, 96, 224, 224]⟩
abbrev S15 : Shape := ⟨1, ![15]⟩
abbrev S16 : Shape := ⟨1, ![16]⟩
abbrev S_ : Shape := ⟨0, ![]⟩
abbrev S8 : Shape := ⟨1, ![8]⟩
abbrev S8x1x1x1 : Shape := ⟨4, ![8, 1, 1, 1]⟩
abbrev S8x4816896 : Shape := ⟨2, ![8, 4816896]⟩
abbrev S8x1 : Shape := ⟨2, ![8, 1]⟩
abbrev S8x96x224x224x1 : Shape := ⟨5, ![8, 96, 224, 224, 1]⟩
abbrev S1x1x1x1x15 : Shape := ⟨5, ![1, 1, 1, 1, 15]⟩
abbrev S8x96x224x224x15 : Shape := ⟨5, ![8, 96, 224, 224, 15]⟩

abbrev nBuf : Space → Nat
  | .hbm => 73
  | .vmem => 0
  | .smem => 0
  | _ => 0

abbrev bufTy : (tb : Table) → Fin (tcTables nBuf tb) → BufTy
  | .hbm, ⟨0, _⟩ => ⟨S8x96x224x224, .f32⟩
  | .hbm, ⟨1, _⟩ => ⟨S15, .f32⟩
  | .hbm, ⟨2, _⟩ => ⟨S16, .f32⟩
  | .hbm, ⟨3, _⟩ => ⟨S_, .f32⟩
  | .hbm, ⟨4, _⟩ => ⟨S8, .f32⟩
  | .hbm, ⟨5, _⟩ => ⟨S8x1x1x1, .f32⟩
  | .hbm, ⟨6, _⟩ => ⟨S_, .f32⟩
  | .hbm, ⟨7, _⟩ => ⟨S8x1x1x1, .f32⟩
  | .hbm, ⟨8, _⟩ => ⟨S8x1x1x1, .f32⟩
  | .hbm, ⟨9, _⟩ => ⟨S8x96x224x224, .f32⟩
  | .hbm, ⟨10, _⟩ => ⟨S8x96x224x224, .f32⟩
  | .hbm, ⟨11, _⟩ => ⟨S8x4816896, .f32⟩
  | .hbm, ⟨12, _⟩ => ⟨S_, .i32⟩
  | .hbm, ⟨13, _⟩ => ⟨S_, .f32⟩
  | .hbm, ⟨14, _⟩ => ⟨S8, .f32⟩
  | .hbm, ⟨15, _⟩ => ⟨S8x1, .f32⟩
  | .hbm, ⟨16, _⟩ => ⟨S_, .f32⟩
  | .hbm, ⟨17, _⟩ => ⟨S8x1, .f32⟩
  | .hbm, ⟨18, _⟩ => ⟨S8x1, .f32⟩
  | .hbm, ⟨19, _⟩ => ⟨S8x4816896, .f32⟩
  | .hbm, ⟨20, _⟩ => ⟨S8x4816896, .f32⟩
  | .hbm, ⟨21, _⟩ => ⟨S8x4816896, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S8, .f32⟩
  | .hbm, ⟨27, _⟩ => ⟨S8, .f32⟩
  | .hbm, ⟨28, _⟩ => ⟨S8, .f32⟩
  | .hbm, ⟨29, _⟩ => ⟨S_, .f32⟩
  | .hbm, ⟨30, _⟩ => ⟨S_, .i1⟩
  | .hbm, ⟨31, _⟩ => ⟨S_, .f32⟩
  | .hbm, ⟨32, _⟩ => ⟨S_, .f32⟩
  | .hbm, ⟨33, _⟩ => ⟨S8, .f32⟩
  | .hbm, ⟨34, _⟩ => ⟨S8, .f32⟩
  | .hbm, ⟨35, _⟩ => ⟨S8, .f32⟩
  | .hbm, ⟨36, _⟩ => ⟨S8x1x1x1, .f32⟩
  | .hbm, ⟨37, _⟩ => ⟨S_, .f32⟩
  | .hbm, ⟨38, _⟩ => ⟨S8x1x1x1, .f32⟩
  | .hbm, ⟨39, _⟩ => ⟨S8x1x1x1, .f32⟩
  | .hbm, ⟨40, _⟩ => ⟨S8x96x224x224, .f32⟩
  | .hbm, ⟨41, _⟩ => ⟨S8x96x224x224, .f32⟩
  | .hbm, ⟨42, _⟩ => ⟨S8x96x224x224x1, .f32⟩
  | .hbm, ⟨43, _⟩ => ⟨S1x1x1x1x15, .f32⟩
  | .hbm, ⟨44, _⟩ => ⟨S8x96x224x224x15, .f32⟩
  | .hbm, ⟨45, _⟩ => ⟨S8x96x224x224x15, .f32⟩
  | .hbm, ⟨46, _⟩ => ⟨S8x96x224x224x15, .i1⟩
  | .hbm, ⟨47, _⟩ => ⟨S8x96x224x224x15, .i32⟩
  | .hbm, ⟨48, _⟩ => ⟨S_, .i32⟩
  | .hbm, ⟨49, _⟩ => ⟨S8x96x224x224, .i32⟩
  | .hbm, ⟨50, _⟩ => ⟨S_, .i32⟩
  | .hbm, ⟨51, _⟩ => ⟨S8x96x224x224, .i32⟩
  | .hbm, ⟨52, _⟩ => ⟨S8x96x224x224, .i1⟩
  | .hbm, ⟨53, _⟩ => ⟨S_, .i32⟩
  | .hbm, ⟨54, _⟩ => ⟨S8x96x224x224, .i32⟩
  | .hbm, ⟨55, _⟩ => ⟨S8x96x224x224, .i32⟩
  | .hbm, ⟨56, _⟩ => ⟨S8x96x224x224, .i32⟩
  | .hbm, ⟨57, _⟩ => ⟨S8x96x224x224x1, .i32⟩
  | .hbm, ⟨58, _⟩ => ⟨S8x96x224x224, .f32⟩
  | .hbm, ⟨59, _⟩ => ⟨S8x96x224x224, .f32⟩
  | .hbm, ⟨60, _⟩ => ⟨S8x96x224x224, .f32⟩
  | .hbm, ⟨61, _⟩ => ⟨S8x96x224x224, .f32⟩
  | .hbm, ⟨62, _⟩ => ⟨S8x96x224x224, .f32⟩
  | .hbm, ⟨63, _⟩ => ⟨S8, .f32⟩
  | .hbm, ⟨64, _⟩ => ⟨S_, .f32⟩
  | .hbm, ⟨65, _⟩ => ⟨S8, .f32⟩
  | .hbm, ⟨66, _⟩ => ⟨S8, .i1⟩
  | .hbm, ⟨67, _⟩ => ⟨S8x1x1x1, .i1⟩
  | .hbm, ⟨68, _⟩ => ⟨S_, .f32⟩
  | .hbm, ⟨69, _⟩ => ⟨S_, .f32⟩
  | .hbm, ⟨70, _⟩ => ⟨S8x96x224x224, .i1⟩
  | .hbm, ⟨71, _⟩ => ⟨S8x96x224x224, .f32⟩
  | .hbm, ⟨72, _⟩ => ⟨S8x96x224x224, .f32⟩
  | _, _ => ⟨S8x96x224x224, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_cst_0 : Ref sig .tc := ⟨.hbm, 2, rfl⟩
abbrev main_cst_1 : Ref sig .tc := ⟨.hbm, 3, rfl⟩
abbrev main_v0 : Ref sig .tc := ⟨.hbm, 4, rfl⟩
abbrev main_v1 : Ref sig .tc := ⟨.hbm, 5, rfl⟩
abbrev main_cst_2 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_c : Ref sig .tc := ⟨.hbm, 12, rfl⟩
abbrev main_call0_call0_cst : Ref sig .tc := ⟨.hbm, 13, rfl⟩
abbrev main_call0_call0_v0 : Ref sig .tc := ⟨.hbm, 14, rfl⟩
abbrev main_call0_call0_v1 : Ref sig .tc := ⟨.hbm, 15, rfl⟩
abbrev main_call0_call0_cst_0 : Ref sig .tc := ⟨.hbm, 16, rfl⟩
abbrev main_call0_call0_v2 : Ref sig .tc := ⟨.hbm, 17, rfl⟩
abbrev main_call0_call0_v3 : Ref sig .tc := ⟨.hbm, 18, rfl⟩
abbrev main_call0_call0_v4 : Ref sig .tc := ⟨.hbm, 19, rfl⟩
abbrev main_call0_call0_v5 : Ref sig .tc := ⟨.hbm, 20, rfl⟩
abbrev main_call0_call0_v6 : Ref sig .tc := ⟨.hbm, 21, rfl⟩
abbrev main_call0_call0_v7 : Ref sig .tc := ⟨.hbm, 22, rfl⟩
abbrev main_call0_call0_cst_1 : Ref sig .tc := ⟨.hbm, 23, rfl⟩
abbrev main_call0_call0_v8 : Ref sig .tc := ⟨.hbm, 24, rfl⟩
abbrev main_call0_call0_cst_2 : Ref sig .tc := ⟨.hbm, 25, rfl⟩
abbrev main_call0_call0_v9 : Ref sig .tc := ⟨.hbm, 26, rfl⟩
abbrev main_call0_call0_v10 : Ref sig .tc := ⟨.hbm, 27, rfl⟩
abbrev main_call0_call0_v11 : Ref sig .tc := ⟨.hbm, 28, rfl⟩
abbrev main_call0_call0_cst_3 : Ref sig .tc := ⟨.hbm, 29, rfl⟩
abbrev main_call0_call0_v12 : Ref sig .tc := ⟨.hbm, 30, rfl⟩
abbrev main_call0_call0_cst_4 : Ref sig .tc := ⟨.hbm, 31, rfl⟩
abbrev main_call0_call0_call0_v0 : Ref sig .tc := ⟨.hbm, 32, rfl⟩
abbrev main_call0_call0_call0_v1 : Ref sig .tc := ⟨.hbm, 33, rfl⟩
abbrev main_call0_v0 : Ref sig .tc := ⟨.hbm, 34, rfl⟩
abbrev main_v7 : Ref sig .tc := ⟨.hbm, 35, rfl⟩
abbrev main_v8 : Ref sig .tc := ⟨.hbm, 36, rfl⟩
abbrev main_cst_3 : Ref sig .tc := ⟨.hbm, 37, rfl⟩
abbrev main_v9 : Ref sig .tc := ⟨.hbm, 38, rfl⟩
abbrev main_v10 : Ref sig .tc := ⟨.hbm, 39, rfl⟩
abbrev main_v11 : Ref sig .tc := ⟨.hbm, 40, rfl⟩
abbrev main_v12 : Ref sig .tc := ⟨.hbm, 41, rfl⟩
abbrev main_v13 : Ref sig .tc := ⟨.hbm, 42, rfl⟩
abbrev main_v14 : Ref sig .tc := ⟨.hbm, 43, rfl⟩
abbrev main_v15 : Ref sig .tc := ⟨.hbm, 44, rfl⟩
abbrev main_v16 : Ref sig .tc := ⟨.hbm, 45, rfl⟩
abbrev main_v17 : Ref sig .tc := ⟨.hbm, 46, rfl⟩
abbrev main_v18 : Ref sig .tc := ⟨.hbm, 47, rfl⟩
abbrev main_c_4 : Ref sig .tc := ⟨.hbm, 48, rfl⟩
abbrev main_v19 : Ref sig .tc := ⟨.hbm, 49, rfl⟩
abbrev main_c_5 : Ref sig .tc := ⟨.hbm, 50, rfl⟩
abbrev main_v20 : Ref sig .tc := ⟨.hbm, 51, rfl⟩
abbrev main_v21 : Ref sig .tc := ⟨.hbm, 52, rfl⟩
abbrev main_c_6 : Ref sig .tc := ⟨.hbm, 53, rfl⟩
abbrev main_v22 : Ref sig .tc := ⟨.hbm, 54, rfl⟩
abbrev main_v23 : Ref sig .tc := ⟨.hbm, 55, rfl⟩
abbrev main_v24 : Ref sig .tc := ⟨.hbm, 56, rfl⟩
abbrev main_v25 : Ref sig .tc := ⟨.hbm, 57, rfl⟩
abbrev main_v26 : Ref sig .tc := ⟨.hbm, 58, rfl⟩
abbrev main_v27 : Ref sig .tc := ⟨.hbm, 59, rfl⟩
abbrev main_v28 : Ref sig .tc := ⟨.hbm, 60, rfl⟩
abbrev main_v29 : Ref sig .tc := ⟨.hbm, 61, rfl⟩
abbrev main_v30 : Ref sig .tc := ⟨.hbm, 62, rfl⟩
abbrev main_v31 : Ref sig .tc := ⟨.hbm, 63, rfl⟩
abbrev main_cst_7 : Ref sig .tc := ⟨.hbm, 64, rfl⟩
abbrev main_v32 : Ref sig .tc := ⟨.hbm, 65, rfl⟩
abbrev main_v33 : Ref sig .tc := ⟨.hbm, 66, rfl⟩
abbrev main_v34 : Ref sig .tc := ⟨.hbm, 67, rfl⟩
abbrev main_cst_8 : Ref sig .tc := ⟨.hbm, 68, rfl⟩
abbrev main_call1_v0 : Ref sig .tc := ⟨.hbm, 69, rfl⟩
abbrev main_call1_v1 : Ref sig .tc := ⟨.hbm, 70, rfl⟩
abbrev main_call1_v2 : Ref sig .tc := ⟨.hbm, 71, rfl⟩
abbrev main_v35 : Ref sig .tc := ⟨.hbm, 72, rfl⟩

abbrev nD : Nat := 1
abbrev τ : Topo := Topo.v7x

variable {F : FTy → Type} [FloatOps F]
-- ==== Proof.StatsBody.lean ====
/-
  The body of the first call, run once per kind of grid point. The call walks the eight pieces of a sample. At a sample's
  first piece it clears its two words of scratch, at every piece it adds the piece's sum and sum of squares to them, and at
  the last piece it turns the two words into the sixteen words the second call reads.
-/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.CellWrites
public import Idealize.ShloMosaic.Lib.VecWindow
public import Idealize.ShloMosaic.Lib.WholeRead
public import Idealize.ShloMosaic.Lib.Ring
public import Idealize.ShloMosaic.Lib.Tactic
public import Idealize.ShloMosaic.Lib.WordCmp

@[expose] public section

-- blocks of this size are checked by evaluation, one step per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The resource algebra the assertions below are over. -/
abbrev Mach (F : FTy → Type) [FloatOps F] := MT nD τ sig Unit (Elt F) ℕ (UR sig nD τ) ℕ

/-! ## Where in a sample a grid point is -/

/-- The point is at its sample's first piece. -/
abbrev isFirst (i : grid0.Coords) : Prop := (Scalar.cmpi .ne (Scalar.extui (Scalar.cmpi .eq (BitVec.ofNat 32 (i 1).val) 0#32)) 0#32) = 1#1

theorem isFirst_iff : ∀ t : Fin cfg0.N, isFirst (grid0.coords t) ↔ t.val % 8 = 0 :=
  (fun t => by
    have ht : t.val < 64 := Nat.lt_of_lt_of_eq t.isLt N_0
    have e0 : (grid0.coords t 0).val = t.val / 8 % 8 := Pipeline.Grid.coords_val t 0 (by decide) rfl
    have e1 : (grid0.coords t 1).val = t.val / 1 % 8 := Pipeline.Grid.coords_val t 1 (by decide) rfl
    simp only [isFirst, e0, e1]
    word_cmp
   : ∀ t : Fin grid0.N, isFirst (grid0.coords t) ↔ t.val % 8 = 0)

/-- The point is at its sample's last piece. -/
abbrev isLast (i : grid0.Coords) : Prop := k0_cond2 i = 1#1

theorem isLast_iff : ∀ t : Fin cfg0.N, isLast (grid0.coords t) ↔ t.val % 8 = 7 :=
  (fun t => by
    have ht : t.val < 64 := Nat.lt_of_lt_of_eq t.isLt N_0
    have e0 : (grid0.coords t 0).val = t.val / 8 % 8 := Pipeline.Grid.coords_val t 0 (by decide) rfl
    have e1 : (grid0.coords t 1).val = t.val / 1 % 8 := Pipeline.Grid.coords_val t 1 (by decide) rfl
    simp only [isLast, k0_cond2, e0, e1]
    word_cmp
   : ∀ t : Fin grid0.N, isLast (grid0.coords t) ↔ t.val % 8 = 7)

theorem idle_of_not_last : ∀ t : Fin cfg0.N, ¬isLast (grid0.coords t) → cfg0.idle 1 (grid0.coords t) = true := by decide +kernel
theorem noFlush_of_not_last : ∀ t : Fin cfg0.N, ¬isLast (grid0.coords t) → (cfg0.win 1).flush t = false := by decide +kernel
theorem live_of_last : ∀ t : Fin cfg0.N, isLast (grid0.coords t) → cfg0.idle 1 (grid0.coords t) = false := by decide +kernel

/-! ## What the body computes -/

/-- The scratch's two words. -/
abbrev cell0 : S2.Idx := fun a => ⟨![0] a, by fin_cases a; decide⟩
abbrev cell1 : S2.Idx := fun a => ⟨![1] a, by fin_cases a; decide⟩

/-- The scratch after a piece `x` is added to it. -/
def accStep (x : Vec F S1x4704x128 .f32) (a : Vec F S2 .f32) : Vec F S2 .f32 := fun y =>
  if (y 0).val = 0 then k0_pay2 x (a cell0) else k0_pay3 x (a cell1)

/-- The scratch as a sample's first piece clears it. -/
def accZero : Vec F S2 .f32 := fun _ => Scalar.ofBits .f32 0x00000000#32

/-- The sixteen words made of a sample's sum `s` and sum of squares `q`. -/
def coefs (s q : F .f32) : Fin 16 → F .f32 :=
  let d := k0_pay9 s q
  let g := Scalar.cmpf .olt (k0_pay8 s q) (Scalar.ofBits .f32 0x2B8CBCCC#32)
  ![k0_pay10 s q, k0_pay11 s q, k0_pay12 s q, k0_pay13 s q, k0_pay14 s q, k0_pay15 s q, k0_pay16 d, k0_pay17 d g,
    k0_pay18 d g, k0_pay19 d g, k0_pay20 d g, k0_pay21 d g, k0_pay22 d g, k0_pay4 d g, k0_pay5 d g, k0_pay6 (k0_pay7 s) g]

/-- The same as the block the last piece leaves. -/
def coefBlock (a : Vec F S2 .f32) : Vec F S1x1x16 .f32 := fun y => coefs (a cell0) (a cell1) (y 2)

/-! ## Reading a buffer back -/

/-- Two stores, one per word of the scratch, over anything. -/
theorem read_two (v : View sig .tc .smem S2 .f32) (f : v.ty.Contents (Elt F)) (p q : F .f32) (L : List (View.Piece (Elt F) S2 .f32))
    (i0 : ∀ a, (![0] : Fin 1 → ℕ) a + S1.size a ≤ S2.size a) (i1 : ∀ a, (![1] : Fin 1 → ℕ) a + S1.size a ≤ S2.size a) (y : S2.Idx) :
    v.read (Elt F) (v.writes (Elt F) f (⟨Rect.unit ![1] S1.size i1, fun _ => q⟩ :: ⟨Rect.unit ![0] S1.size i0, fun _ => p⟩ :: L)) y
      = if (y 0).val = 0 then p else q := by
  have h1 : (y 0).val < 2 := (y 0).isLt
  refine (View.read_writes_cons_cell (d := ![2]) v f i1 q _ y).trans ?_
  by_cases h : (y 0).val = 1
  · exact (if_pos h).trans (if_neg (by omega)).symm
  · have h0 : (y 0).val = 0 := by omega
    exact (if_neg h).trans ((View.read_writes_cons_cell (d := ![2]) v f i0 p _ y).trans ((if_pos h0).trans (if_pos h0).symm))

/-- One more store of a word into a block of sixteen. -/
theorem read_word (v : View sig .tc .smem S1x1x16 .f32) (f : v.ty.Contents (Elt F)) (k : ℕ) (p : F .f32)
    (L : List (View.Piece (Elt F) S1x1x16 .f32)) (i : ∀ a, (![0, 0, k] : Fin 3 → ℕ) a + S1x1x1.size a ≤ S1x1x16.size a) (y : S1x1x16.Idx) :
    v.read (Elt F) (v.writes (Elt F) f (⟨Rect.unit ![0, 0, k] S1x1x1.size i, fun _ => p⟩ :: L)) y
      = if (y 2).val = k then p else v.read (Elt F) (v.writes (Elt F) f L) y := by
  have h0 : (y 0).val < 1 := (y 0).isLt
  have h1 : (y 1).val < 1 := (y 1).isLt
  by_cases h : (y 2).val = k
  · rw [if_pos h]
    refine View.read_writes_cons_unit_of_mem v f i (fun _ => p) L y (fun a => ⟨0, by fin_cases a <;> exact Nat.one_pos⟩) rfl ?_
    intro a
    fin_cases a
    · show (y 0).val = 0 + 0; omega
    · show (y 1).val = 0 + 0; omega
    · show (y 2).val = k + 0; omega
  · rw [if_neg h]
    refine View.read_writes_cons_unit_of_not_mem v f i (fun _ => p) L y rfl 2 ?_
    show (y 2).val < k ∨ k + 1 ≤ (y 2).val
    omega

/-- Loading the whole block a window holds. -/
theorem load_block {arg : Memref sig .tc .vmem S1x4704x128 .f32} (h : arg.IsWhole) (x : Vec F S1x4704x128 .f32)
    (i : ∀ a, (![0, 0, 0] : Fin 3 → ℕ) a + S1x4704x128.size a ≤ S1x4704x128.size a) :
    View.readAt (Elt F) arg.view (Rect.unit ![0, 0, 0] S1x4704x128.size i).toLoadRect (h.unread x) = x :=
  (View.readAt_full arg.view _ i).trans (h.read_unread x)

/-- Loading one word of the scratch. -/
theorem load_cell0 {arg : Memref sig .tc .smem S2 .f32} (h : arg.IsWhole) (a : Vec F S2 .f32)
    (i : ∀ b, (![0] : Fin 1 → ℕ) b + S1.size b ≤ S2.size b) (z : (Rect.unit (s := S2) ![0] S1.size i).toLoadRect.shape.Idx) :
    View.readAt (Elt F) arg.view (Rect.unit (s := S2) ![0] S1.size i).toLoadRect (h.unread a) z = a cell0 := by
  rw [h.readAt_unread]
  refine congrArg a (funext fun b => Fin.ext ?_)
  have : (z 0).val < 1 := (z 0).isLt
  fin_cases b
  show 0 + 1 * (z 0).val = 0
  omega

theorem load_cell1 {arg : Memref sig .tc .smem S2 .f32} (h : arg.IsWhole) (a : Vec F S2 .f32)
    (i : ∀ b, (![1] : Fin 1 → ℕ) b + S1.size b ≤ S2.size b) (z : (Rect.unit (s := S2) ![1] S1.size i).toLoadRect.shape.Idx) :
    View.readAt (Elt F) arg.view (Rect.unit (s := S2) ![1] S1.size i).toLoadRect (h.unread a) z = a cell1 := by
  rw [h.readAt_unread]
  refine congrArg a (funext fun b => Fin.ext ?_)
  have : (z 0).val < 1 := (z 0).isLt
  fin_cases b
  show 1 + 1 * (z 0).val = 1
  omega

/-! ## The body's three runs -/

set_option maxHeartbeats 1000000 in
/-- At a sample's first piece the scratch is cleared and the piece added. -/
theorem body_first (c : Dev nD) (i : grid0.Coords) (arg2 : Memref sig .tc .vmem S1x4704x128 .f32) (harg2 : arg2.IsWhole)
    (arg3 : Memref sig .tc .smem S1x1x16 .f32) (harg3 : arg3.IsWhole) (arg4 : Memref sig .tc .smem S2 .f32) (harg4 : arg4.IsWhole)
    (hc0 : isFirst i) (hc1 : ¬isLast i) (x0 : Vec F S1x4704x128 .f32) (xi1 : Vec F S1x1x16 .f32) (E : Set ℕ)
    (K : PUnit → sProp (Mach F)) :
    iprop(owns (c : Thread nD τ) arg2 fullShare x0 ∗ owns (c : Thread nD τ) arg3 fullShare xi1 ∗ (∃ d, owns (c : Thread nD τ) arg4 fullShare d)
        ∗ (iprop(owns (c : Thread nD τ) arg2 fullShare x0 ∗ owns (c : Thread nD τ) arg3 fullShare xi1
            ∗ owns (c : Thread nD τ) arg4 fullShare (accStep x0 accZero)) -∗ K ⟨⟩))
      ⊢ wp frame (wpE (defs₀ (F := F)) Variants.none c none) E (cc0__stats_body i arg2 harg2 arg3 harg3 arg4 harg4) K := by
  simp only [cc0__stats_body_eq_skeleton]; unfold cc0__stats_body_skel
  unfold owns
  iintro ⟨⟨%f0, %hf0, H0⟩, ⟨%f1, %hf1, H1⟩, ⟨%ds0, %fs0, %hfs0, HS0⟩, Hk⟩
  obtain rfl := harg2.eq_unread hf0; obtain rfl := harg3.eq_unread hf1; obtain rfl := harg4.eq_unread hfs0
  sl_exec (disch := first | sl_exact hc0 | sl_exact hc1)
  sl_step
  iapply Hk
  isplitl [H0]
  · iexists _; isplitr; · ipureintro; exact harg2.read_unread _
    iexact H0
  isplitl [H1]
  · iexists _; isplitr; · ipureintro; exact harg3.read_unread _
    iexact H1
  iexists _; isplitr
  swap; · iexact HS0
  ipureintro
  funext y
  rw [read_two, load_block]
  rfl

set_option maxHeartbeats 1000000 in
/-- At a piece between the first and the last the piece is added. -/
theorem body_mid (c : Dev nD) (i : grid0.Coords) (arg2 : Memref sig .tc .vmem S1x4704x128 .f32) (harg2 : arg2.IsWhole)
    (arg3 : Memref sig .tc .smem S1x1x16 .f32) (harg3 : arg3.IsWhole) (arg4 : Memref sig .tc .smem S2 .f32) (harg4 : arg4.IsWhole)
    (hc0 : ¬isFirst i) (hc1 : ¬isLast i) (x0 : Vec F S1x4704x128 .f32) (xs : Vec F S2 .f32) (xi1 : Vec F S1x1x16 .f32) (E : Set ℕ)
    (K : PUnit → sProp (Mach F)) :
    iprop(owns (c : Thread nD τ) arg2 fullShare x0 ∗ owns (c : Thread nD τ) arg3 fullShare xi1 ∗ owns (c : Thread nD τ) arg4 fullShare xs
        ∗ (iprop(owns (c : Thread nD τ) arg2 fullShare x0 ∗ owns (c : Thread nD τ) arg3 fullShare xi1
            ∗ owns (c : Thread nD τ) arg4 fullShare (accStep x0 xs)) -∗ K ⟨⟩))
      ⊢ wp frame (wpE (defs₀ (F := F)) Variants.none c none) E (cc0__stats_body i arg2 harg2 arg3 harg3 arg4 harg4) K := by
  simp only [cc0__stats_body_eq_skeleton]; unfold cc0__stats_body_skel
  unfold owns
  iintro ⟨⟨%f0, %hf0, H0⟩, ⟨%f1, %hf1, H1⟩, ⟨%fs0, %hfs0, HS0⟩, Hk⟩
  obtain rfl := harg2.eq_unread hf0; obtain rfl := harg3.eq_unread hf1; obtain rfl := harg4.eq_unread hfs0
  sl_exec (disch := first | sl_exact hc0 | sl_exact hc1)
  sl_step
  iapply Hk
  isplitl [H0]
  · iexists _; isplitr; · ipureintro; exact harg2.read_unread _
    iexact H0
  isplitl [H1]
  · iexists _; isplitr; · ipureintro; exact harg3.read_unread _
    iexact H1
  iexists _; isplitr
  swap; · iexact HS0
  ipureintro
  funext y
  have e0 : body_mid.sl.r c arg4 harg4 xs = xs cell0 := load_cell0 harg4 xs _ _
  have e1 : body_mid.sl.r_1 c arg4 harg4 xs = xs cell1 := load_cell1 harg4 xs _ _
  rw [read_two, load_block, e0, e1]
  rfl

set_option maxHeartbeats 1000000 in
/-- At a sample's last piece the piece is added and the sixteen words are written. -/
theorem body_last (c : Dev nD) (i : grid0.Coords) (arg2 : Memref sig .tc .vmem S1x4704x128 .f32) (harg2 : arg2.IsWhole)
    (arg3 : Memref sig .tc .smem S1x1x16 .f32) (harg3 : arg3.IsWhole) (arg4 : Memref sig .tc .smem S2 .f32) (harg4 : arg4.IsWhole)
    (hc0 : ¬isFirst i) (hc1 : isLast i) (x0 : Vec F S1x4704x128 .f32) (xs : Vec F S2 .f32) (E : Set ℕ)
    (K : PUnit → sProp (Mach F)) :
    iprop(owns (c : Thread nD τ) arg2 fullShare x0 ∗ (∃ d, owns (c : Thread nD τ) arg3 fullShare d) ∗ owns (c : Thread nD τ) arg4 fullShare xs
        ∗ (iprop(owns (c : Thread nD τ) arg2 fullShare x0 ∗ owns (c : Thread nD τ) arg3 fullShare (coefBlock (accStep x0 xs))
            ∗ owns (c : Thread nD τ) arg4 fullShare (accStep x0 xs)) -∗ K ⟨⟩))
      ⊢ wp frame (wpE (defs₀ (F := F)) Variants.none c none) E (cc0__stats_body i arg2 harg2 arg3 harg3 arg4 harg4) K := by
  simp only [cc0__stats_body_eq_skeleton]; unfold cc0__stats_body_skel
  unfold owns
  iintro ⟨⟨%f0, %hf0, H0⟩, ⟨%ds1, %f1, %hf1, H1⟩, ⟨%fs0, %hfs0, HS0⟩, Hk⟩
  obtain rfl := harg2.eq_unread hf0; obtain rfl := harg3.eq_unread hf1; obtain rfl := harg4.eq_unread hfs0
  sl_exec (disch := first | sl_exact hc0 | sl_exact hc1)
  sl_step
  iapply Hk
  isplitl [H0]
  · iexists _; isplitr; · ipureintro; exact harg2.read_unread _
    iexact H0
  isplitl [H1]
  · iexists _; isplitr
    swap; · iexact H1
    ipureintro
    funext y
    iterate 16 rw [read_word]
    have e0 : body_last.sl.r c arg4 harg4 xs = xs cell0 := load_cell0 harg4 xs _ _
    have e1 : body_last.sl.r_1 c arg4 harg4 xs = xs cell1 := load_cell1 harg4 xs _ _
    have e2 : body_last.sl.r_2 c arg2 harg2 arg4 harg4 x0 xs = accStep x0 xs cell0 := by
      unfold body_last.sl.r_2
      rw [load_block, e0]
      rfl
    have e3 : body_last.sl.r_3 c arg2 harg2 arg4 harg4 x0 xs = accStep x0 xs cell1 := by
      unfold body_last.sl.r_3
      rw [load_block, e1]
      rfl
    have e4 : body_last.sl.r_10 c arg2 harg2 arg4 harg4 x0 xs = k0_pay7 (accStep x0 xs cell0) := by
      rw [← e2]; rfl
    have e5 : body_last.sl.r_11 c arg2 harg2 arg4 harg4 x0 xs = k0_pay9 (accStep x0 xs cell0) (accStep x0 xs cell1) := by
      rw [← e2, ← e3]; rfl
    have e6 : body_last.sl.v33 c arg2 harg2 arg4 harg4 x0 xs = Scalar.cmpf .olt (k0_pay8 (accStep x0 xs cell0) (accStep x0 xs cell1)) (Scalar.ofBits .f32 0x2B8CBCCC#32) := by
      rw [← e2, ← e3]; rfl
    have e7 : body_last.sl.r_19 c arg2 harg2 arg4 harg4 x0 xs = k0_pay22 (k0_pay9 (accStep x0 xs cell0) (accStep x0 xs cell1))
        (Scalar.cmpf .olt (k0_pay8 (accStep x0 xs cell0) (accStep x0 xs cell1)) (Scalar.ofBits .f32 0x2B8CBCCC#32)) := by
      rw [← e2, ← e3]; rfl
    have e8 : body_last.sl.r_12 c arg2 harg2 arg4 harg4 x0 xs = k0_pay15 (accStep x0 xs cell0) (accStep x0 xs cell1) := by
      rw [← e2, ← e3]; rfl
    rw [e4, e5, e6, e7, e8, e2, e3]
    unfold coefBlock
    obtain ⟨k, hk⟩ : ∃ k : Fin 16, k = y 2 := ⟨y 2, rfl⟩
    rw [← hk]
    fin_cases k <;> rfl
  iexists _; isplitr
  swap; · iexact HS0
  ipureintro
  funext y
  have e0 : body_last.sl.r c arg4 harg4 xs = xs cell0 := load_cell0 harg4 xs _ _
  have e1 : body_last.sl.r_1 c arg4 harg4 xs = xs cell1 := load_cell1 harg4 xs _ _
  rw [read_two, load_block, e0, e1]
  rfl

end Cert.KernelIdeal.Gen

end
-- ==== Proof.StatsRegion.lean ====
/-
  The first call as a whole: what every buffer holds before and after each grid point, and that the body keeps to it. The
  two words of scratch are carried from one point to the next, so what holds between two points names their contents.
-/
module

public import proofs.«01_k».proof.Proof.StatsBody
public import Idealize.ShloMosaic.Lib.Pipeline.RegionsLoop
public import Idealize.ShloMosaic.Lib.Pipeline.FrameSuffix

@[expose] public section

-- blocks of this size are checked by evaluation, one step per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (V : (c : Dev nD) → (b : Ref sig .tc) → Buf (Elt F) ((c : Thread nD τ).loc b))

/-! ## Contents -/

/-- The block of window `w`'s array that point `t` works on, as the call finds the array. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The scratch after the body at position `n`: started anew at each sample's first piece. -/
def acc (c : Dev nD) : (n : ℕ) → n < cfg0.N → Vec F S2 .f32
  | 0, h => accStep (iblk0 V c 0 ⟨0, h⟩) accZero
  | n + 1, h => accStep (iblk0 V c 0 ⟨n + 1, h⟩) (if (n + 1) % 8 = 0 then accZero else acc c n (Nat.lt_of_succ_lt h))

theorem acc_first (c : Dev nD) (n : ℕ) (h : n < cfg0.N) (h0 : n % 8 = 0) : acc V c n h = accStep (iblk0 V c 0 ⟨n, h⟩) accZero := by
  cases n with
  | zero => rfl
  | succ n => rw [acc, if_pos h0]

theorem acc_next (c : Dev nD) (n : ℕ) (h : n < cfg0.N) (h0 : ¬n % 8 = 0) :
    acc V c n h = accStep (iblk0 V c 0 ⟨n, h⟩) (acc V c (n - 1) (by omega)) := by
  cases n with
  | zero => exact absurd rfl h0
  | succ n => rw [acc, if_neg h0]; rfl

/-! ## What holds between two points -/

/-- The scratch, as the call names it. -/
abbrev scr : Memref sig .tc .smem S2 .f32 := Memref.whole cc0_scratch0

/-- The second call's staging buffers, which this call does not touch. -/
def others (c : Dev nD) : sProp (Mach F) :=
  iprop((∃ f : Buf (Elt F) ((c : Thread nD τ).loc cc1_stg1_0), ((c : Thread nD τ).loc cc1_stg1_0) ↦{fullShare} f)
    ∗ (∃ f : Buf (Elt F) ((c : Thread nD τ).loc cc1_stg1_1), ((c : Thread nD τ).loc cc1_stg1_1) ↦{fullShare} f)
    ∗ (∃ f : Buf (Elt F) ((c : Thread nD τ).loc cc1_stg2_0), ((c : Thread nD τ).loc cc1_stg2_0) ↦{fullShare} f)
    ∗ (∃ f : Buf (Elt F) ((c : Thread nD τ).loc cc1_stg2_1), ((c : Thread nD τ).loc cc1_stg2_1) ↦{fullShare} f)
    ∗ (∃ f : Buf (Elt F) ((c : Thread nD τ).loc cc1_stg0_0), ((c : Thread nD τ).loc cc1_stg0_0) ↦{fullShare} f))

/-- What the call starts from: the scratch at anything, the other buffers, the generator. -/
theorem rest_open (c : Dev nD) : (Pipeline.ΦA spec0 c : sProp (Mach F))
    ⊢ iprop((∃ d, owns (c : Thread nD τ) scr fullShare d) ∗ others c ∗ (∃ r, prngReg c r)) := by
  unfold Pipeline.ΦA others
  rw [scopedRest0_eq]
  simp only [scr, owns_whole]
  iintro ⟨⟨HA, HB, HC, HD, HS, HE⟩, Hg⟩
  isplitl [HS]; · iexact HS
  isplitr [Hg]
  · isplitl [HA]; · iexact HA
    isplitl [HB]; · iexact HB
    isplitl [HC]; · iexact HC
    isplitl [HD]; · iexact HD
    iexact HE
  iexact Hg

/-- And back. -/
theorem rest_close (c : Dev nD) : iprop((∃ d, owns (c : Thread nD τ) scr fullShare d) ∗ others c ∗ (∃ r, prngReg c r))
    ⊢ (Pipeline.ΦA spec0 c : sProp (Mach F)) := by
  unfold Pipeline.ΦA others
  rw [scopedRest0_eq]
  simp only [scr, owns_whole]
  iintro ⟨HS, ⟨HA, HB, HC, HD, HE⟩, Hg⟩
  isplitr [Hg]
  · isplitl [HA]; · iexact HA
    isplitl [HB]; · iexact HB
    isplitl [HC]; · iexact HC
    isplitl [HD]; · iexact HD
    isplitl [HS]; · iexact HS
    iexact HE
  iexact Hg

/-- What holds before position `n`: at the start anything is in the scratch, later what the point before left there. -/
def between (c : Dev nD) : (n : ℕ) → n ≤ cfg0.N → sProp (Mach F)
  | 0, _ => Pipeline.ΦA spec0 c
  | n + 1, h => iprop(owns (c : Thread nD τ) scr fullShare (acc V c n h) ∗ others c ∗ (∃ r, prngReg c r))

theorem between_zero (c : Dev nD) (n : ℕ) (h : n ≤ cfg0.N) (hz : n = 0) : between V c n h = Pipeline.ΦA spec0 c := by
  subst hz; rfl

theorem between_pos (c : Dev nD) (n : ℕ) (h : n ≤ cfg0.N) (hz : n ≠ 0) :
    between V c n h = iprop(owns (c : Thread nD τ) scr fullShare (acc V c (n - 1) (by omega)) ∗ others c ∗ (∃ r, prngReg c r)) := by
  cases n with
  | zero => exact absurd rfl hz
  | succ n => rfl

/-- At any position the scratch may be forgotten. -/
theorem between_open (c : Dev nD) (n : ℕ) (h : n ≤ cfg0.N) :
    between V c n h ⊢ iprop((∃ d, owns (c : Thread nD τ) scr fullShare d) ∗ others c ∗ (∃ r, prngReg c r)) := by
  by_cases hz : n = 0
  · rw [between_zero V c n h hz]; exact rest_open c
  · rw [between_pos V c n h hz]
    iintro ⟨HS, HO, Hg⟩
    isplitl [HS]; · iexists _; iexact HS
    isplitl [HO]; · iexact HO
    iexact Hg

/-! ## The call's proof data -/

/-- The arrays as the call finds them; after the body the input's buffer at its block and the output's at the sixteen words
    made of the scratch (read only where the output is written back, at a sample's last piece). -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => coefBlock (acc V c t.val t.isLt)
  Φ t := between V c t.val (Nat.le_of_lt_succ t.isLt)
  q _ := fullShare
  owed _ := 0

theorem A_eq0 (c : Dev nD) (w : Fin cfg0.W) : (dat0 V c).A w = V c (Pipeline.arrRef spec0 w) := by dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = coefBlock (acc V c t.val t.isLt) := by dsimp only [dat0]
theorem between_castSucc (c : Dev nD) (t : Fin cfg0.N) : (dat0 V c).Φ t.castSucc = between V c t.val (Nat.le_of_lt t.isLt) := by
  dsimp only [dat0]; exact Pipeline.Dat.Φ_castSucc (between V c) t

/-- The input's staging buffer holds its block at every point. -/
theorem before0_0 (c : Dev nD) (t : Fin cfg0.N) (d) : (dat0 V c).before 0 t d = iblk0 V c 0 t :=
  ((dat0 V c).before_in_eq_fetched 0 rfl (fun _ => rfl) (fun _ _ _ => rfl)
    (fun t => by rw [after0_0]; unfold Dat.blockOf iblk0; rw [A_eq0]) t d).trans
    (by unfold Dat.fetched Dat.blockOf iblk0; rw [A_eq0]; try rfl)

/-! ## The body keeps to it -/

abbrev ms0_0 (t : Fin cfg0.N) : Memref sig .tc .vmem S1x4704x128 .f32 := win0_0.stage (cfg0.slots t 0)
abbrev ms0_1 (t : Fin cfg0.N) : Memref sig .tc .smem S1x1x16 .f32 := win0_1.stage (cfg0.slots t 1)

/-- What the body is called with at point `t`, the windows one by one, -/
def bodyPre0 (c : Dev nD) (t : Fin cfg0.N) : sProp (Mach F) :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d)))

/-- and what it returns. -/
def bodyPost0 (c : Dev nD) (t : Fin cfg0.N) : sProp (Mach F) :=
  iprop((dat0 V c).Φ t.succ ∗ (dat0 V c).owesAt () t.succ
    ∗ (dat0 V c).leavesExact 0 t
    ∗ (dat0 V c).leavesExact 1 t)

set_option maxHeartbeats 1000000 in
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).owesAt () t.succ = (dat0 V c).owesAt () t.castSucc from rfl]
  rw [show (dat0 V c).Φ t.succ = iprop(owns (c : Thread nD τ) scr fullShare (acc V c t.val t.isLt) ∗ others c ∗ (∃ r, prngReg c r)) from rfl]
  rw [show (dat0 V c).leavesExact 0 t = owns (c : Thread nD τ) (ms0_0 t) fullShare ((dat0 V c).after 0 t) from rfl, after0_0]
  rw [between_castSucc]
  by_cases h1 : t.val % 8 = 7
  · have h0 : ¬t.val % 8 = 0 := by omega
    have hl : isLast (grid0.coords t) := (isLast_iff t).mpr h1
    have hf : ¬isFirst (grid0.coords t) := fun h => h0 ((isFirst_iff t).mp h)
    rw [show (dat0 V c).leavesExact 1 t = owns (c : Thread nD τ) (ms0_1 t) fullShare ((dat0 V c).after 1 t) from by
      unfold Dat.leavesExact; rw [live_of_last t hl], after0_1]
    rw [between_pos V c _ _ (by omega), acc_next V c _ _ h0]
    iintro ⟨⟨HS, HO, Hg⟩, Ho, ⟨%d0, H0⟩, ⟨%d1, H1⟩⟩
    iapply (body_last c (grid0.coords t) _ _ _ _ _ _ hf hl (iblk0 V c 0 t) _ Set.univ _)
    isplitl [H0]; · iexact H0
    isplitl [H1]; · iexists _; iexact H1
    isplitl [HS]; · iexact HS
    iintro ⟨H0, H1, HS⟩
    isplitl [HS HO Hg]
    · isplitl [HS]; · iexact HS
      isplitl [HO]; · iexact HO
      iexact Hg
    isplitl [Ho]; · iexact Ho
    isplitl [H0]; · iexact H0
    iexact H1
  · have hl : ¬isLast (grid0.coords t) := fun h => h1 ((isLast_iff t).mp h)
    rw [Dat.leavesExact_idle (dat0 V c) 1 t (idle_of_not_last t hl) (noFlush_of_not_last t hl)]
    by_cases h0 : t.val % 8 = 0
    · have hf : isFirst (grid0.coords t) := (isFirst_iff t).mpr h0
      rw [acc_first V c _ _ h0]
      refine (sep_mono (between_open V c _ _) .rfl).trans ?_
      iintro ⟨⟨HS, HO, Hg⟩, Ho, ⟨%d0, H0⟩, ⟨%d1, H1⟩⟩
      iapply (body_first c (grid0.coords t) _ _ _ _ _ _ hf hl (iblk0 V c 0 t) _ Set.univ _)
      isplitl [H0]; · iexact H0
      isplitl [H1]; · iexact H1
      isplitl [HS]; · iexact HS
      iintro ⟨H0, H1, HS⟩
      isplitl [HS HO Hg]
      · isplitl [HS]; · iexact HS
        isplitl [HO]; · iexact HO
        iexact Hg
      isplitl [Ho]; · iexact Ho
      isplitl [H0]; · iexact H0
      iexists _; iexact H1
    · have hf : ¬isFirst (grid0.coords t) := fun h => h0 ((isFirst_iff t).mp h)
      rw [between_pos V c _ _ (by omega), acc_next V c _ _ h0]
      iintro ⟨⟨HS, HO, Hg⟩, Ho, ⟨%d0, H0⟩, ⟨%d1, H1⟩⟩
      iapply (body_mid c (grid0.coords t) _ _ _ _ _ _ hf hl (iblk0 V c 0 t) _ _ Set.univ _)
      isplitl [H0]; · iexact H0
      isplitl [H1]; · iexact H1
      isplitl [HS]; · iexact HS
      iintro ⟨H0, H1, HS⟩
      isplitl [HS HO Hg]
      · isplitl [HS]; · iexact HS
        isplitl [HO]; · iexact HO
        iexact Hg
      isplitl [Ho]; · iexact Ho
      isplitl [H0]; · iexact H0
      iexists _; iexact H1

theorem defs₀_row0 (t : Fin cfg0.N) :
    defs₀ (F := F) .tc cfg0.body (cfg0.bodyArgs t (cfg0.slots t)) = bodyAt0 t := by
  unfold defs₀; rw [Defs.onTc_tc]

theorem body_obligation0 (c : Dev nD) : BodyObligation (dat0 (F := F) V c) (defs₀ (F := F)) Variants.none () Set.univ := fun t => by
  rw [bigSep_W0, bigSep_W0, defs₀_row0]
  exact triple_restated (sound_body0 V c t) rfl .rfl fun _ => .rfl

theorem enter0 (c : Dev nD) : Pipeline.ΦA spec0 c ⊢ (dat0 V c).Φ 0 := by
  rw [show (dat0 V c).Φ 0 = between V c 0 (Nat.zero_le _) from rfl, between_zero V c 0 _ rfl]
  try exact Idealize.SL.BI.Entails.refl _

theorem leave0 (c : Dev nD) : (dat0 V c).Φ (Fin.last cfg0.N) ⊢ Pipeline.ΦA spec0 c :=
  (between_open V c _ (le_refl _)).trans (rest_close c)

end Cert.KernelIdeal.Gen

end
-- ==== Proof.ApplyBody.lean ====
/-
  The body of the second call, run once: it reads its sample's sixteen words and its piece, and stores the rounded piece.
-/
module

public import proofs.«01_k».proof.Proof.StatsBody

@[expose] public section

-- blocks of this size are checked by evaluation, one step per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## What the body computes -/

/-- Word `k` of sample `b` in the table of words. -/
abbrev word (b : Fin 8) (k : Fin 16) : S8x1x16.Idx := fun a =>
  ⟨![b.val, 0, k.val] a, by
    have := b.isLt; have := k.isLt
    fin_cases a
    · show b.val < 8; omega
    · show 0 < 1; omega
    · show k.val < 16; omega⟩

/-- The rounded piece, from the sample's sixteen words `w` and the piece `x`. -/
def applyBlock (w : Fin 16 → F .f32) (x : Vec F S1x4704x128 .f32) : Vec F S1x4704x128 .f32 :=
  k1_pay1 (w 15) (k1_pay2 (w 15) x)
    (k1_pay5 (k1_pay3 (w 15) x) (k1_pay4 (w 15) x (w 0) (w 8) (w 1) (w 9) (w 2) (w 10)) (w 3) (w 11) (w 4) (w 12) (w 5) (w 13) (w 6) (w 14))
    (w 7)

/-- The sixteen words of sample `b`. -/
def wordsOf (x : Vec F S8x1x16 .f32) (b : Fin 8) : Fin 16 → F .f32 := fun k => x (word b k)

/-- A sample's number survives being made a word and read back. -/
theorem toNat_sample (i : grid1.Coords) : (Scalar.indexCast (BitVec.ofNat 32 (i 0).val) : Index).toNat = (i 0).val := by
  have h : (i 0).val < 8 := (i 0).isLt
  show (BitVec.ofNat 32 (i 0).val).toNat = (i 0).val
  rw [BitVec.toNat_ofNat]
  omega

/-- Loading one word of the table. -/
theorem load_word {arg : Memref sig .tc .smem S8x1x16 .f32} (h : arg.IsWhole) (x : Vec F S8x1x16 .f32) (b : Fin 8) (k : Fin 16)
    (off : Fin 3 → ℕ) (e : off = ![b.val, 0, k.val]) (i : ∀ a, off a + S1x1x1.size a ≤ S8x1x16.size a)
    (z : (Rect.unit (s := S8x1x16) off S1x1x1.size i).toLoadRect.shape.Idx) :
    View.readAt (Elt F) arg.view (Rect.unit (s := S8x1x16) off S1x1x1.size i).toLoadRect (h.unread x) z = wordsOf x b k := by
  rw [h.readAt_unread]
  subst e
  refine congrArg x (funext fun a => Fin.ext ?_)
  have h0 : (z 0).val < 1 := (z 0).isLt
  have h1 : (z 1).val < 1 := (z 1).isLt
  have h2 : (z 2).val < 1 := (z 2).isLt
  fin_cases a
  · show b.val + 1 * (z 0).val = b.val; omega
  · show 0 + 1 * (z 1).val = 0; omega
  · show k.val + 1 * (z 2).val = k.val; omega

/-- One store of the whole block. -/
theorem read_block (v : View sig .tc .vmem S1x4704x128 .f32) (f : v.ty.Contents (Elt F)) (p : Vec F S1x4704x128 .f32)
    (i : ∀ a, (![0, 0, 0] : Fin 3 → ℕ) a + S1x4704x128.size a ≤ S1x4704x128.size a) :
    v.read (Elt F) (v.writes (Elt F) f [⟨Rect.unit (s := S1x4704x128) ![0, 0, 0] S1x4704x128.size i, p⟩]) = p := by
  funext y
  refine View.read_writes_cons_unit_of_mem v f i p [] y y rfl ?_
  intro a
  fin_cases a
  · show (y 0).val = 0 + (y 0).val; omega
  · show (y 1).val = 0 + (y 1).val; omega
  · show (y 2).val = 0 + (y 2).val; omega

/-! ## The body's run -/

set_option maxHeartbeats 1000000 in
theorem body_apply (c : Dev nD) (i : grid1.Coords) (arg2 : Memref sig .tc .smem S8x1x16 .f32) (harg2 : arg2.IsWhole)
    (arg3 : Memref sig .tc .vmem S1x4704x128 .f32) (harg3 : arg3.IsWhole) (arg4 : Memref sig .tc .vmem S1x4704x128 .f32) (harg4 : arg4.IsWhole)
    (x0 : Vec F S8x1x16 .f32) (x1 : Vec F S1x4704x128 .f32) (E : Set ℕ) (K : PUnit → sProp (Mach F)) :
    iprop(owns (c : Thread nD τ) arg2 fullShare x0 ∗ owns (c : Thread nD τ) arg3 fullShare x1 ∗ (∃ d, owns (c : Thread nD τ) arg4 fullShare d)
        ∗ (iprop(owns (c : Thread nD τ) arg2 fullShare x0 ∗ owns (c : Thread nD τ) arg3 fullShare x1
            ∗ owns (c : Thread nD τ) arg4 fullShare (applyBlock (wordsOf x0 (i 0)) x1)) -∗ K ⟨⟩))
      ⊢ wp frame (wpE (defs₀ (F := F)) Variants.none c none) E (cc1__apply_body i arg2 harg2 arg3 harg3 arg4 harg4) K := by
  simp only [cc1__apply_body_eq_skeleton]; unfold cc1__apply_body_skel
  simp only [k1_part1_eq_skeleton, k1_part2_eq_skeleton]
  unfold owns
  iintro ⟨⟨%f0, %hf0, H0⟩, ⟨%f1, %hf1, H1⟩, ⟨%d2, %f2, -, H2⟩, Hk⟩
  obtain rfl := harg2.eq_unread hf0; obtain rfl := harg3.eq_unread hf1
  sl_exec
  sl_step
  iapply Hk
  isplitl [H0]
  · iexists _; isplitr; · ipureintro; exact harg2.read_unread _
    iexact H0
  isplitl [H1]
  · iexists _; isplitr; · ipureintro; exact harg3.read_unread _
    iexact H1
  iexists _; isplitr
  swap; · iexact H2
  ipureintro
  refine (read_block _ _ _ _).trans ?_
  have e0 : body_apply.sl.r c i arg2 harg2 x0 = wordsOf x0 (i 0) 15 :=
    load_word harg2 x0 (i 0) 15 (k1_off1 i) (by unfold k1_off1; simp only [toNat_sample]; rfl) _ _
  have e1 : body_apply.sl.r_1 c i arg2 harg2 x0 = wordsOf x0 (i 0) 0 :=
    load_word harg2 x0 (i 0) 0 (k1_off2 i) (by unfold k1_off2; simp only [toNat_sample]; rfl) _ _
  have e2 : body_apply.sl.r_2 c i arg2 harg2 x0 = wordsOf x0 (i 0) 8 :=
    load_word harg2 x0 (i 0) 8 (k1_off3 i) (by unfold k1_off3; simp only [toNat_sample]; rfl) _ _
  have e3 : body_apply.sl.r_3 c i arg2 harg2 x0 = wordsOf x0 (i 0) 1 :=
    load_word harg2 x0 (i 0) 1 (k1_off4 i) (by unfold k1_off4; simp only [toNat_sample]; rfl) _ _
  have e4 : body_apply.sl.r_4 c i arg2 harg2 x0 = wordsOf x0 (i 0) 9 :=
    load_word harg2 x0 (i 0) 9 (k1_off5 i) (by unfold k1_off5; simp only [toNat_sample]; rfl) _ _
  have e5 : body_apply.sl.r_5 c i arg2 harg2 x0 = wordsOf x0 (i 0) 2 :=
    load_word harg2 x0 (i 0) 2 (k1_off6 i) (by unfold k1_off6; simp only [toNat_sample]; rfl) _ _
  have e6 : body_apply.sl.r_6 c i arg2 harg2 x0 = wordsOf x0 (i 0) 10 :=
    load_word harg2 x0 (i 0) 10 (k1_off7 i) (by unfold k1_off7; simp only [toNat_sample]; rfl) _ _
  have e7 : body_apply.sl.r_10 c i arg2 harg2 x0 = wordsOf x0 (i 0) 3 :=
    load_word harg2 x0 (i 0) 3 (k1_off8 i) (by unfold k1_off8; simp only [toNat_sample]; rfl) _ _
  have e8 : body_apply.sl.r_11 c i arg2 harg2 x0 = wordsOf x0 (i 0) 11 :=
    load_word harg2 x0 (i 0) 11 (k1_off9 i) (by unfold k1_off9; simp only [toNat_sample]; rfl) _ _
  have e9 : body_apply.sl.r_12 c i arg2 harg2 x0 = wordsOf x0 (i 0) 4 :=
    load_word harg2 x0 (i 0) 4 (k1_off10 i) (by unfold k1_off10; simp only [toNat_sample]; rfl) _ _
  have e10 : body_apply.sl.r_13 c i arg2 harg2 x0 = wordsOf x0 (i 0) 12 :=
    load_word harg2 x0 (i 0) 12 (k1_off11 i) (by unfold k1_off11; simp only [toNat_sample]; rfl) _ _
  have e11 : body_apply.sl.r_14 c i arg2 harg2 x0 = wordsOf x0 (i 0) 5 :=
    load_word harg2 x0 (i 0) 5 (k1_off12 i) (by unfold k1_off12; simp only [toNat_sample]; rfl) _ _
  have e12 : body_apply.sl.r_15 c i arg2 harg2 x0 = wordsOf x0 (i 0) 13 :=
    load_word harg2 x0 (i 0) 13 (k1_off13 i) (by unfold k1_off13; simp only [toNat_sample]; rfl) _ _
  have e13 : body_apply.sl.r_16 c i arg2 harg2 x0 = wordsOf x0 (i 0) 6 :=
    load_word harg2 x0 (i 0) 6 (k1_off14 i) (by unfold k1_off14; simp only [toNat_sample]; rfl) _ _
  have e14 : body_apply.sl.r_17 c i arg2 harg2 x0 = wordsOf x0 (i 0) 14 :=
    load_word harg2 x0 (i 0) 14 (k1_off15 i) (by unfold k1_off15; simp only [toNat_sample]; rfl) _ _
  have e15 : body_apply.sl.r_19 c i arg2 harg2 x0 = wordsOf x0 (i 0) 7 :=
    load_word harg2 x0 (i 0) 7 (k1_off16 i) (by unfold k1_off16; simp only [toNat_sample]; rfl) _ _
  unfold body_apply.sl.r_18 body_apply.sl.r_7 body_apply.sl.r_8 body_apply.sl.r_9
  rw [e0, e1, e2, e3, e4, e5, e6, e7, e8, e9, e10, e11, e12, e13, e14, e15, load_block]
  rfl

end Cert.KernelIdeal.Gen

end
-- ==== Proof.ApplyRegion.lean ====
/-
  The second call as a whole: what its buffers hold around each grid point, and that the body keeps to it.
-/
module

public import proofs.«01_k».proof.Proof.ApplyBody
public import Idealize.ShloMosaic.Lib.Pipeline.RegionsLoop
public import Idealize.ShloMosaic.Lib.Pipeline.FrameSuffix

@[expose] public section

-- blocks of this size are checked by evaluation, one step per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (V : (c : Dev nD) → (b : Ref sig .tc) → Buf (Elt F) ((c : Thread nD τ).loc b))

/-- The block of window `w`'s array that point `t` works on, as the call finds the array. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The rounded piece at point `t`. -/
def rounded (c : Dev nD) (t : Fin cfg1.N) : Vec F S1x4704x128 .f32 :=
  applyBlock (wordsOf (iblk1 V c 0 t) (grid1.coords t 0)) (iblk1 V c 1 t)

/-- The arrays as the call finds them; after the body the inputs' buffers at their blocks, the output's at the rounded piece. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => rounded V c t
  Φ _ := Pipeline.ΦA spec1 c
  q _ := fullShare
  owed _ := 0

theorem A_eq1 (c : Dev nD) (w : Fin cfg1.W) : (dat1 V c).A w = V c (Pipeline.arrRef spec1 w) := by dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = rounded V c t := by dsimp only [dat1]

/-- The inputs' staging buffers hold their blocks at every point, fetched there or not. -/
theorem before1_0 (c : Dev nD) (t : Fin cfg1.N) (d) : (dat1 V c).before 0 t d = iblk1 V c 0 t :=
  ((dat1 V c).before_in_eq_fetched 0 rfl (fun _ => rfl) (fun _ _ _ => rfl)
    (fun t => by rw [after1_0]; unfold Dat.blockOf iblk1; rw [A_eq1]) t d).trans
    (by unfold Dat.fetched Dat.blockOf iblk1; rw [A_eq1]; try rfl)
theorem before1_1 (c : Dev nD) (t : Fin cfg1.N) (d) : (dat1 V c).before 1 t d = iblk1 V c 1 t :=
  ((dat1 V c).before_in_eq_fetched 1 rfl (fun _ => rfl) (fun _ _ _ => rfl)
    (fun t => by rw [after1_1]; unfold Dat.blockOf iblk1; rw [A_eq1]) t d).trans
    (by unfold Dat.fetched Dat.blockOf iblk1; rw [A_eq1]; try rfl)

abbrev ms1_0 (t : Fin cfg1.N) : Memref sig .tc .smem S8x1x16 .f32 := win1_0.stage (cfg1.slots t 0)
abbrev ms1_1 (t : Fin cfg1.N) : Memref sig .tc .vmem S1x4704x128 .f32 := win1_1.stage (cfg1.slots t 1)
abbrev ms1_2 (t : Fin cfg1.N) : Memref sig .tc .vmem S1x4704x128 .f32 := win1_2.stage (cfg1.slots t 2)

/-- What the body is called with at point `t`, the windows one by one, -/
def bodyPre1 (c : Dev nD) (t : Fin cfg1.N) : sProp (Mach F) :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d)))

/-- and what it returns. -/
def bodyPost1 (c : Dev nD) (t : Fin cfg1.N) : sProp (Mach F) :=
  iprop((dat1 V c).Φ t.succ ∗ (dat1 V c).owesAt () t.succ
    ∗ owns (c : Thread nD τ) (ms1_0 t) fullShare ((dat1 V c).after 0 t)
    ∗ owns (c : Thread nD τ) (ms1_1 t) fullShare ((dat1 V c).after 1 t)
    ∗ owns (c : Thread nD τ) (ms1_2 t) fullShare ((dat1 V c).after 2 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  unfold rounded
  iintro ⟨HΦ, Ho, ⟨%d0, H0⟩, ⟨%d1, H1⟩, ⟨%d2, H2⟩⟩
  iapply (body_apply c (grid1.coords t) _ _ _ _ _ _ (iblk1 V c 0 t) (iblk1 V c 1 t) Set.univ _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem defs₀_row1 (t : Fin cfg1.N) :
    defs₀ (F := F) .tc cfg1.body (cfg1.bodyArgs t (cfg1.slots t)) = bodyAt1 t := by
  unfold defs₀; rw [Defs.onTc_tc]

theorem body_obligation1 (c : Dev nD) : BodyObligation (dat1 (F := F) V c) (defs₀ (F := F)) Variants.none () Set.univ := fun t => by
  rw [bigSep_W1, bigSep_W1, defs₀_row1]
  exact triple_restated (sound_body1 V c t) rfl .rfl fun _ => .rfl

end Cert.KernelIdeal.Gen

end
-- ==== Proof.Run.lean ====
/-
  The run of the whole program: the reshape, the two calls one after the other, the reshape back. Every buffer's contents
  are named at each boundary (`W0` to `W4`); the run ends with the argument as it was, the result at `W4`'s contents and
  every semaphore at zero.
-/
module

public import proofs.«01_k».proof.Proof.StatsRegion
public import proofs.«01_k».proof.Proof.ApplyRegion

@[expose] public section

-- blocks of this size are checked by evaluation, one step per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-- The argument. -/
abbrev argRefs : List (Ref sig .tc) := [main_arg0]

/-- The reshape before the calls makes no buffer of its own, writes one buffer, and that is not the argument. -/
theorem hostOps0_fresh : (hostOps0 : List (HloOp τ sig (Elt F))).Forall fun op => op.fresh = ∅ := by
  simp only [List.Forall]; repeat' constructor
abbrev hostOps0_W : List (Ref sig .tc) := [main_v0]
theorem hostOps0_writes : (hostOps0 : List (HloOp τ sig (Elt F))).Forall fun op => op.writes ⊆ (hostOps0_W.map (Proc.devRef (τ := τ) .tc)).toFinset :=
  StableHlo.forall_writes_sub_of_map rfl
theorem hostOps0_args : ∀ a ∈ argRefs, a ∉ hostOps0_W := ListAll.forall_mem_of_all_decide (by decide +kernel)

/-- The reshape after the calls, likewise. -/
theorem hostOps2_fresh : (hostOps2 : List (HloOp τ sig (Elt F))).Forall fun op => op.fresh = ∅ := by
  simp only [List.Forall]; repeat' constructor
abbrev hostOps2_W : List (Ref sig .tc) := [main_v3]
theorem hostOps2_writes : (hostOps2 : List (HloOp τ sig (Elt F))).Forall fun op => op.writes ⊆ (hostOps2_W.map (Proc.devRef (τ := τ) .tc)).toFinset :=
  StableHlo.forall_writes_sub_of_map rfl
theorem hostOps2_args : ∀ a ∈ argRefs, a ∉ hostOps2_W := ListAll.forall_mem_of_all_decide (by decide +kernel)

/-- Every buffer's contents at the start. -/
abbrev W0 : Dev nD → Valuation τ sig (Elt F) := fun c b => (s₀ m ρ).mem ((c : Dev nD), b)
theorem W0_args (c : Dev nD) : ∀ a ∈ argRefs, W0 m ρ c (Proc.devRef .tc a) = m ((c : Thread nD τ).loc a) := fun _ _ => rfl
/-- … after the first reshape. -/
abbrev W1 : Dev nD → Valuation τ sig (Elt F) := fun c => StableHlo.after hostOps0 (W0 m ρ c)
theorem W1_of (c : Dev nD) (r : Ref sig .tc) (h : r ∉ hostOps0_W) : W1 m ρ c (Proc.devRef .tc r) = W0 m ρ c (Proc.devRef .tc r) :=
  StableHlo.after_of_writes_sub hostOps0 _ hostOps0_writes h
theorem W1_args (c : Dev nD) : ∀ a ∈ argRefs, W1 m ρ c (Proc.devRef .tc a) = m ((c : Thread nD τ).loc a) :=
  fun a ha => (W1_of m ρ c a (hostOps0_args a ha)).trans (W0_args m ρ c a ha)
/-- The same, as the first call's arrays read it. -/
abbrev V1 : (c : Dev nD) → (b : Ref sig .tc) → Buf (Elt F) ((c : Thread nD τ).loc b) := fun c b => W1 m ρ c b
/-- … after the first call: its arrays as the call leaves them, every other buffer as before. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- A buffer that the first call does not write is as before it. -/
theorem W2_of (c : Dev nD) (r : Ref sig .tc) (h : ∀ w : Fin cfg0.W, Pipeline.arrRef spec0 w = r → (cfg0.win w).isOut = false) :
    W2 m ρ c (Proc.devRef .tc r) = W1 m ρ c (Proc.devRef .tc r) := by
  by_cases hw : ∃ w : Fin cfg0.W, Pipeline.arrRef spec0 w = r
  · obtain ⟨w, rfl⟩ := hw
    exact (W2_arr m ρ c w).trans (((dat0 (V1 m ρ) c).arrAt_in w (h w rfl) _).trans (A_eq0 (V1 m ρ) c w))
  · exact W2_of_ne m ρ c r fun w e => hw ⟨w, e⟩
theorem argsIn0 : ∀ a ∈ argRefs, ∀ w : Fin cfg0.W, Pipeline.arrRef spec0 w = a → (cfg0.win w).isOut = false :=
  ListAll.forall_mem_of_all_decide (by decide +kernel)
theorem W2_args (c : Dev nD) : ∀ a ∈ argRefs, W2 m ρ c (Proc.devRef .tc a) = m ((c : Thread nD τ).loc a) :=
  fun a ha => (W2_of m ρ c a (argsIn0 a ha)).trans (W1_args m ρ c a ha)
/-- The same, as the second call's arrays read it. -/
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- … after the second call. -/
def W3 (c : Dev nD) : Valuation τ sig (Elt F) :=
  Pipeline.withArrays spec1 c (W2 m ρ c) fun w => (dat1 (V2 m ρ) c).arrAt w cfg1.N
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
/-- A buffer that the second call does not write is as before it. -/
theorem W3_of (c : Dev nD) (r : Ref sig .tc) (h : ∀ w : Fin cfg1.W, Pipeline.arrRef spec1 w = r → (cfg1.win w).isOut = false) :
    W3 m ρ c (Proc.devRef .tc r) = W2 m ρ c (Proc.devRef .tc r) := by
  by_cases hw : ∃ w : Fin cfg1.W, Pipeline.arrRef spec1 w = r
  · obtain ⟨w, rfl⟩ := hw
    exact (W3_arr m ρ c w).trans (((dat1 (V2 m ρ) c).arrAt_in w (h w rfl) _).trans (A_eq1 (V2 m ρ) c w))
  · exact W3_of_ne m ρ c r fun w e => hw ⟨w, e⟩
theorem argsIn1 : ∀ a ∈ argRefs, ∀ w : Fin cfg1.W, Pipeline.arrRef spec1 w = a → (cfg1.win w).isOut = false :=
  ListAll.forall_mem_of_all_decide (by decide +kernel)
theorem W3_args (c : Dev nD) : ∀ a ∈ argRefs, W3 m ρ c (Proc.devRef .tc a) = m ((c : Thread nD τ).loc a) :=
  fun a ha => (W3_of m ρ c a (argsIn1 a ha)).trans (W2_args m ρ c a ha)
abbrev V3 : (c : Dev nD) → (b : Ref sig .tc) → Buf (Elt F) ((c : Thread nD τ).loc b) := fun c b => W3 m ρ c b
theorem hF1 (c : Dev nD) (w : Fin cfg1.W) : (dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-- … after the last reshape: what the run leaves. -/
abbrev W4 : Dev nD → Valuation τ sig (Elt F) := fun c => StableHlo.after hostOps2 (W3 m ρ c)
theorem W4_of (c : Dev nD) (r : Ref sig .tc) (h : r ∉ hostOps2_W) : W4 m ρ c (Proc.devRef .tc r) = W3 m ρ c (Proc.devRef .tc r) :=
  StableHlo.after_of_writes_sub hostOps2 _ hostOps2_writes h
theorem W4_args (c : Dev nD) : ∀ a ∈ argRefs, W4 m ρ c (Proc.devRef .tc a) = m ((c : Thread nD τ).loc a) :=
  fun a ha => (W4_of m ρ c a (hostOps2_args a ha)).trans (W3_args m ρ c a ha)

/-- The argument is as it was. -/
theorem W4_main_arg0 (c : Dev nD) : W4 m ρ c (Proc.devRef .tc main_arg0) = m ((c : Thread nD τ).loc main_arg0) :=
  W4_args m ρ c main_arg0 (by decide)

abbrev adm : (p : Fin 2) → (pcfgs (F := F) p).Adm := fun p => (cfgs p).toPCfg_adm
/-- What each call's run is about: its arrays' contents at its start. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V2 m ρ) c
abbrev 𝒱₀ : Variants := Variants.none
abbrev L : GSem nD τ sig → Finset Unit := fun _ => ∅
abbrev lv : GSem nD τ sig → Unit → ℕ := fun _ _ => 0
/-- What is carried along beside the buffers: the generator's state, and nothing owed. -/
abbrev R (c : Dev nD) : sProp (Mach F) := iprop((∃ r, prngReg c r) ∗ ∃ W, owes (c : Thread nD τ) (0 : CellTallies nD τ sig Unit) W)
/-- A stretch of operations outside the calls, from the contents before it. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- What is held at the end. -/
abbrev Tₙ (c : Dev nD) : sProp (Mach F) := iprop(StableHlo.held (c : Thread nD τ) (Pipeline.ucRefs τ sig) (W4 m ρ c) ∗ ∃ r, prngReg c r)

set_option backward.isDefEq.respectTransparency.types false in
/-- The first call, as one step from the contents before it to those after it. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) (A_eq0 (V1 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (enter0 (V1 m ρ) c)
    unfold Pipeline.ΦA
    iintro ⟨Hp, -, Hr⟩
    isplitl [Hr]; · iexact Hr
    iexact Hp
  hout c := by
    rw [Pipeline.ownSems0_none]
    refine (leave0 (V1 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second call, likewise. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) (A_eq1 (V2 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- The program's four steps. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .region (reg1 m ρ),
    .host (hseg hostOps2 hostOps2_sub hostOps2_fresh (W3 m ρ)) ]
/-- The program is its four steps one after the other. -/
theorem main_run (c : Dev nD) : main (F := F) c = Pipeline.Seg.run (segs m ρ) := (main_chain c).trans (by chain_rfl)

/-- Every semaphore belongs to a call. -/
theorem no_unscoped : ∀ sm : SemLoc sig, sm.isScoped .tc = true := by decide

set_option backward.isDefEq.respectTransparency.types false in
/-- Every run ends: the result at the contents named above, the argument as it was, every semaphore at zero. -/
theorem runs : θ_run defs (onTc (τ := τ) (main (F := F))) ⟨m, fun _ => 0, ρ⟩ (fun r => (∀ c : Dev nD,
      r.2.mem ((c.tc : Thread nD τ).loc main_v3) = W4 m ρ c (Proc.devRef .tc main_v3)
        ∧ r.2.mem ((c.tc : Thread nD τ).loc main_arg0) = m ((c.tc : Thread nD τ).loc main_arg0))
      ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (Mach F))
            ⊢ BI.own (emb₁ (initOf (Pipeline.cells cfgs cellOf_inj) (Pipeline.launchToks cfgs cellOf_inj))) from .rfl)
        iexact Hu
      iapply (show (BI.emp : sProp (Mach F)) ⊢ bigSep Finset.univ (fun _ : Dev nD => (BI.emp : sProp (Mach F))) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h hz => ⟨(fun c =>
      ⟨h c _ (mem_uc main_v3 (by decide)), (h c _ (mem_uc main_arg0 (by decide))).trans (W4_main_arg0 m ρ c)⟩), funext fun g => hz g (.inr (no_unscoped g.2))⟩)

/-- The same without the result: the argument as it was, every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0))
      ∧ r.2.sem = fun _ => 0) :=
  (θ_run defs _ _).mono (fun r h => ⟨fun c => (h.1 c).2, h.2⟩) (runs m ρ)

end Cert.KernelIdeal.Gen

end
-- ==== Proof.Frames.lean ====
/-
  The claims that say only that a program runs: it ends, nothing faults, the argument is as it was, every semaphore is at
  zero. The printed kernel's claim is the idealized one's read at machine floats, the two programs being one text.
-/
module

public import proofs.«01_k».proof.Defs
public import proofs.«01_k».proof.Proof.Gen.Kernel
public import proofs.«01_k».proof.Proof.Gen.ReferenceIdeal.Run
public import proofs.«01_k».proof.Proof.Run
public import Idealize.ShloMosaic.Lib.Quiescent

@[expose] public section

noncomputable section

namespace Cert.Proof

open Idealize.ShloMosaic Idealize.SL.Sem

/-! ## The predicates' shape facts -/

theorem preFacts : Cert.Pre_off_ties.Facts where
  bcast_S_S8x96x224x224 := by decide
  reducesTo_S8x96x224x224_S8_d1_2_3 := by decide
  h_S_ := by decide
  bcast_S8_S8x1x1x1_0 := by decide
  bcast_S_S8x1x1x1 := by decide
  bcast_S8x1x1x1_S8x96x224x224_0_1_2_3 := by decide
  bcast_S8x96x224x224_S8x96x224x224x1_0_1_2_3 := by decide
  bcast_S8_S1x1x1x1x8_4 := by decide
  bcast_S8x96x224x224x1_S8x96x224x224x8_0_1_2_3_4 := by decide
  bcast_S1x1x1x1x8_S8x96x224x224x8_0_1_2_3_4 := by decide
  reducesTo_S8x96x224x224x8_S8x96x224x224_d4 := by decide

theorem onFacts : Cert.On_off_ties.Facts where
  bcast_S_S8x96x224x224 := by decide
  reducesTo_S8x96x224x224_S8_d1_2_3 := by decide
  h_S_ := by decide
  bcast_S8_S8x1x1x1_0 := by decide
  bcast_S_S8x1x1x1 := by decide
  bcast_S8x1x1x1_S8x96x224x224_0_1_2_3 := by decide
  bcast_S8x96x224x224_S8x96x224x224x1_0_1_2_3 := by decide
  bcast_S8_S1x1x1x1x8_4 := by decide
  bcast_S8x96x224x224x1_S8x96x224x224x8_0_1_2_3_4 := by decide
  bcast_S1x1x1x1x8_S8x96x224x224x8_0_1_2_3_4 := by decide
  reducesTo_S8x96x224x224x8_S8x96x224x224_d4 := by decide

/-! ## The frames -/

theorem frameIdeal : Cert.quiescent_KernelIdeal (hKernelIdeal := Cert.KernelIdeal.Gen.facts) :=
  fun m g _ => Cert.KernelIdeal.Gen.frame m g

/-- What a run of the printed kernel comes to, as a statement of its memory and generators. -/
theorem same (m : (ℓ : Loc Cert.Kernel.nD Cert.Kernel.τ Cert.Kernel.sig) → Buf (Elt Bits) ℓ) (g : Dev Cert.Kernel.nD → PrngReg) :
    θ_run (Cert.KernelIdeal.defs (F := Bits)) (onTc (τ := Cert.KernelIdeal.τ) (Cert.KernelIdeal.main (F := Bits))) ⟨m, fun _ => 0, g⟩
        (fun r => (∀ c : Dev Cert.KernelIdeal.nD,
          r.2.mem ((c.tc : Thread Cert.KernelIdeal.nD Cert.KernelIdeal.τ).loc Cert.KernelIdeal.main_arg0)
            = m ((c.tc : Thread Cert.KernelIdeal.nD Cert.KernelIdeal.τ).loc Cert.KernelIdeal.main_arg0)) ∧ r.2.sem = fun _ => 0)
      = θ_run (Cert.Kernel.defs (F := Bits)) (onTc (τ := Cert.Kernel.τ) (Cert.Kernel.main (F := Bits))) ⟨m, fun _ => 0, g⟩
        (fun r => (∀ c : Dev Cert.Kernel.nD,
          r.2.mem ((c.tc : Thread Cert.Kernel.nD Cert.Kernel.τ).loc Cert.Kernel.main_arg0)
            = m ((c.tc : Thread Cert.Kernel.nD Cert.Kernel.τ).loc Cert.Kernel.main_arg0)) ∧ r.2.sem = fun _ => 0) := by
  sl_kernel_rfl

theorem frameKernel : Cert.quiescent_Kernel (hKernel := Cert.Kernel.Gen.facts) :=
  fun m g _ => (same m g).mp (Cert.KernelIdeal.Gen.frame (F := Bits) m g)

theorem frameReference : Cert.quiescent_ReferenceIdeal (hReferenceIdeal := Cert.ReferenceIdeal.Gen.facts) := fun m g _ =>
  (θ_run _ _ _).mono (fun r h => ⟨fun c => (h c).2, sem_eq_zero_of_no_sems (by decide) r.2⟩) (Cert.ReferenceIdeal.Value.run m g)

end Cert.Proof

end
-- ==== Proof.Sample.lean ====
/-
  One sample of the argument as a list of 4816896 elements, the sum over it in the three orders in which the programs
  take it, and folds of truth values over finite sets.
-/
module

public import Idealize.ShloMosaic.Lib.Pipeline.ValueKit
public import Idealize.ShloMosaic.Lib.Pointwise
public import Idealize.ShloMosaic.Lib.IdealHost

@[expose] public section

set_option maxRecDepth 16384

noncomputable section

namespace Cert.Sample

open Idealize.ShloMosaic

/-- The shape of the argument, eight samples. -/
abbrev Batch : Shape := ⟨4, ![8, 96, 224, 224]⟩

/-- Where element `k` of sample `b`, counted along the sample's rows, lies in the argument. -/
def place (b : Fin 8) (k : Nat) : Batch.Idx :=
  Idealize.ShloMosaic.ix4 b (⟨k / 50176 % 96, Nat.mod_lt _ (by decide)⟩ : Fin 96) (⟨k / 224 % 224, Nat.mod_lt _ (by decide)⟩ : Fin 224)
    (⟨k % 224, Nat.mod_lt _ (by decide)⟩ : Fin 224)

/-- The place of an index within its sample. -/
def rank (i : Batch.Idx) : Nat := (i 1).val * 50176 + (i 2).val * 224 + (i 3).val

theorem rank_lt (i : Batch.Idx) : rank i < 4816896 := by
  have h1 : (i 1).val < 96 := (i 1).isLt
  have h2 : (i 2).val < 224 := (i 2).isLt
  have h3 : (i 3).val < 224 := (i 3).isLt
  unfold rank; omega

theorem place_rank (i : Batch.Idx) : place (i 0) (rank i) = i := by
  have h1 : (i 1).val < 96 := (i 1).isLt
  have h2 : (i 2).val < 224 := (i 2).isLt
  have h3 : (i 3).val < 224 := (i 3).isLt
  funext a; apply Fin.ext
  match a with
  | ⟨0, _⟩ => rfl
  | ⟨1, _⟩ => show rank i / 50176 % 96 = (i 1).val; unfold rank; omega
  | ⟨2, _⟩ => show rank i / 224 % 224 = (i 2).val; unfold rank; omega
  | ⟨3, _⟩ => show rank i % 224 = (i 3).val; unfold rank; omega

theorem rank_place (b : Fin 8) (k : Nat) (h : k < 4816896) : rank (place b k) = k := by
  show k / 50176 % 96 * 50176 + k / 224 % 224 * 224 + k % 224 = k
  omega

theorem place_zero (b : Fin 8) (k : Nat) : place b k 0 = b := rfl

/-- The indices that a reduction over the last three axes puts together are those of one sample. -/
theorem drop_iff (h : Batch.ReducesTo [1, 2, 3] ⟨1, ![8]⟩) (i : Batch.Idx) (b : Fin 8) :
    h.drop i = Idealize.ShloMosaic.ix1 b ↔ i 0 = b := by
  constructor
  · intro e
    have := congrArg Fin.val (congrFun e 0)
    exact Fin.ext this
  · rintro rfl
    funext a; apply Fin.ext
    match a with
    | ⟨0, _⟩ => rfl

section Sums

variable {M : Type} [AddCommMonoid M]

/-- A sum over `a · b` numbers is the sum over `a` runs of `b`. -/
theorem sum_blocks (a b : Nat) (g : Nat → M) :
    ∑ k ∈ Finset.range (a * b), g k = ∑ i ∈ Finset.range a, ∑ j ∈ Finset.range b, g (i * b + j) := by
  induction a with
  | zero => simp
  | succ a ih => rw [Nat.succ_mul, Finset.sum_range_add, ih, Finset.sum_range_succ]

/-- The sum over a sample. -/
def total (x : Batch.Idx → M) (b : Fin 8) : M := ∑ k ∈ Finset.range 4816896, x (place b k)

/-- In the order of the tiles: eight parts of 4704 rows of 128. -/
theorem total_tiles (x : Batch.Idx → M) (b : Fin 8) :
    ∑ s ∈ Finset.range 8, ∑ r : Fin 4704, ∑ l : Fin 128, x (place b ((s * 4704 + r.val) * 128 + l.val)) = total x b := by
  unfold total
  rw [show 4816896 = 8 * (4704 * 128) by norm_num, sum_blocks]
  refine Finset.sum_congr rfl fun s _ => ?_
  rw [sum_blocks 4704 128, Finset.sum_range]
  refine Finset.sum_congr rfl fun r _ => ?_
  rw [Finset.sum_range]
  refine Finset.sum_congr rfl fun l _ => ?_
  congr 2
  ring

theorem sum_fin (n : Nat) (g : Fin n → M) (f : Nat → M) (h : ∀ k, g k = f k.val) : ∑ k, g k = ∑ k ∈ Finset.range n, f k :=
  (Finset.sum_congr rfl fun k _ => h k).trans (Finset.sum_range f).symm

/-- As one row. -/
theorem total_row (x : Batch.Idx → M) (b : Fin 8) (g : Fin 4816896 → M) (hg : ∀ k, g k = x (place b k.val)) :
    ∑ k, g k = total x b := by
  unfold total
  exact sum_fin _ g (fun k => x (place b k)) hg

/-- Over the indices that a reduction puts together. -/
theorem total_drop (h : Batch.ReducesTo [1, 2, 3] ⟨1, ![8]⟩) (x : Batch.Idx → M) (b : Fin 8) :
    ∑ i ∈ Finset.univ.filter (fun i => h.drop i = Idealize.ShloMosaic.ix1 b), x i = total x b := by
  unfold total
  refine Finset.sum_nbij' rank (place b) ?_ ?_ ?_ ?_ ?_
  · intro i _
    exact Finset.mem_range.2 (rank_lt i)
  · intro k _
    exact Finset.mem_filter.2 ⟨Finset.mem_univ _, (drop_iff h _ _).2 rfl⟩
  · intro i hi
    rw [← (drop_iff h i b).1 (Finset.mem_filter.1 hi).2]
    exact place_rank i
  · intro k hk
    exact rank_place b k (Finset.mem_range.1 hk)
  · intro i hi
    rw [← (drop_iff h i b).1 (Finset.mem_filter.1 hi).2, place_rank]

theorem total_congr (x y : Batch.Idx → M) (b : Fin 8) (h : ∀ k < 4816896, x (place b k) = y (place b k)) : total x b = total y b := by
  unfold total
  exact Finset.sum_congr rfl fun k hk => h k (Finset.mem_range.1 hk)

end Sums

/-- The host's sum over the last three axes. -/
theorem hostSum (h : Batch.ReducesTo [1, 2, 3] ⟨1, ![8]⟩) (x : Batch.Idx → EReal) (b : Fin 8) :
    Ideal.hostReduceAdd h x 0 (Idealize.ShloMosaic.ix1 b) = total x b :=
  (zero_add _).trans (total_drop h x b)

theorem sum_coe {ι : Type} (s : Finset ι) (f : ι → ℝ) : ∑ i ∈ s, (f i : EReal) = ((∑ i ∈ s, f i : ℝ) : EReal) := by
  classical
  induction s using Finset.induction_on with
  | empty => simp
  | insert a s ha ih => rw [Finset.sum_insert ha, Finset.sum_insert ha, ih, EReal.coe_add]

/-- The sum over a sample of real numbers is a real number. -/
theorem total_coe (f : Batch.Idx → ℝ) (x : Batch.Idx → EReal) (b : Fin 8) (h : ∀ k < 4816896, x (place b k) = (f (place b k) : EReal)) :
    total x b = ((total f b : ℝ) : EReal) := by
  rw [total_congr x (fun i => (f i : EReal)) b h]
  exact sum_coe _ _

attribute [irreducible] total

/-! ## Folds of truth values -/

variable {ι : Type} [DecidableEq ι]

theorem fold_and (s : Finset ι) (p : ι → Prop) [DecidablePred p] (f : ι → BitVec 1) (hf : ∀ i, f i = BitVec.ofBool (decide (p i))) :
    Finset.fold IntOp.andi 1#1 f s = 1#1 ↔ ∀ i ∈ s, p i := by
  classical
  induction s using Finset.induction_on with
  | empty => simp
  | insert a s ha ih =>
    have h2 : ∀ x y : BitVec 1, IntOp.andi x y = 1#1 ↔ x = 1#1 ∧ y = 1#1 := by decide
    have hb : ∀ b : Bool, BitVec.ofBool b = 1#1 ↔ b = true := by decide
    rw [Finset.fold_insert ha, h2, ih, hf, hb]
    simp

theorem fold_or (s : Finset ι) (p : ι → Prop) [DecidablePred p] (f : ι → BitVec 1) (hf : ∀ i, f i = BitVec.ofBool (decide (p i))) :
    Finset.fold IntOp.ori 0#1 f s = 0#1 ↔ ∀ i ∈ s, ¬ p i := by
  classical
  induction s using Finset.induction_on with
  | empty => simp
  | insert a s ha ih =>
    have h2 : ∀ x y : BitVec 1, IntOp.ori x y = 0#1 ↔ x = 0#1 ∧ y = 0#1 := by decide
    have hb : ∀ b : Bool, BitVec.ofBool b = 0#1 ↔ b = false := by decide
    rw [Finset.fold_insert ha, h2, ih, hf, hb]
    simp

/-- The sum of truth values counts the true ones. -/
theorem fold_count (s : Finset ι) (p : ι → Prop) [DecidablePred p] (f : ι → BitVec 32)
    (hf : ∀ i, f i = BitVec.setWidth 32 (BitVec.ofBool (decide (p i)))) :
    Finset.fold IntOp.addi 0#32 f s = BitVec.ofNat 32 (s.filter p).card := by
  classical
  induction s using Finset.induction_on with
  | empty => simp
  | insert a s ha ih =>
    rw [Finset.fold_insert ha, ih, hf, Finset.filter_insert]
    by_cases h : p a
    · rw [if_pos h, Finset.card_insert_of_notMem (by simp [ha])]
      simp [h, IntOp.addi, BitVec.ofNat_add]
      exact BitVec.add_comm _ _
    · simp [h, IntOp.addi]

/-- Reading a table of sixteen at an array of positions: the entry at the position, brought into the table's range. -/
theorem table_at {α : Type} (T : (⟨1, ![16]⟩ : Shape).Idx → α) (d : GatherDims ⟨1, ![16]⟩ ⟨5, ![8, 96, 224, 224, 1]⟩ Batch)
    (h1 : d.offsetDims = []) (h2 : d.collapsedSliceDims = [0]) (h3 : d.operandBatchingDims = []) (h4 : d.startIndicesBatchingDims = [])
    (h5 : d.startIndexMap = [0]) (h6 : d.indexVectorDim = 4) (h7 : d.sliceSizes = ![1]) (n : IVec ⟨5, ![8, 96, 224, 224, 1]⟩ 32)
    (i : Batch.Idx) :
    Host.gather d T n i
      = T (Idealize.ShloMosaic.ix1 ⟨min (n (Idealize.ShloMosaic.ix5 (i 0) (i 1) (i 2) (i 3) 0)).toInt.toNat 15, by omega⟩) := by
  obtain ⟨o, c, ob, sb, sm, iv, ss, wf⟩ := d
  simp only at h1 h2 h3 h4 h5 h6 h7
  subst h1 h2 h3 h4 h5 h6 h7
  unfold Host.gather
  congr 1
  funext a
  have ha : a = 0 := Subsingleton.elim _ _
  subst ha
  apply Fin.ext
  simp only [GatherDims.operandIdx]
  rw [GatherDims.batchCoord_eq_zero _ _ _ (by simp), GatherDims.offCoord_eq_zero _ _ _ (by rw [GatherDims.mem_sKept]; simp)]
  simp only [Nat.add_zero, GatherDims.start]
  rw [dif_pos (by simp)]
  show min (n _).toInt.toNat (16 - 1) = min _ 15
  congr 4
  funext b
  match b with
  | ⟨0, _⟩ => rfl
  | ⟨1, _⟩ => rfl
  | ⟨2, _⟩ => rfl
  | ⟨3, _⟩ => rfl
  | ⟨4, _⟩ => rfl

end Cert.Sample

end
-- ==== Proof.StatsValue.lean ====
/-
  What the first call leaves: the sixteen words of every sample, made of the sample's sum and its sum of squares.
-/
module

public import proofs.«01_k».proof.Proof.Run
public import proofs.«01_k».proof.Proof.Sample
public import Idealize.ShloMosaic.Lib.Pipeline.ValueKit
public import Idealize.ShloMosaic.Lib.Pointwise
public import Idealize.ShloMosaic.Lib.IdealHost

@[expose] public section

set_option maxRecDepth 16384

noncomputable section

namespace Cert.KernelIdeal.Gen

open Idealize.ShloMosaic Idealize.ShloMosaic.TcCoe Idealize.SL.Sem
open Idealize.ShloMosaic.Pipeline (Dat)

variable (V : (c : Dev nD) → (b : Ref sig .tc) → Buf (Elt Ideal) ((c : Thread nD τ).loc b))

theorem sample_lt (t : Fin cfg0.N) : t.val / 8 < 8 := by have := lt_of_lt_of_eq t.isLt N_0; omega

theorem idx0_0 : ∀ t : Fin cfg0.N, win0_0.index t = ![t.val / 8, t.val % 8, 0] := (by decide +kernel : ∀ t : Fin grid0.N, _)
theorem idx0_1 : ∀ t : Fin cfg0.N, win0_1.index t = ![t.val / 8, 0, 0] := (by decide +kernel : ∀ t : Fin grid0.N, _)

/-- An element of the piece that a grid point works on: piece `t % 8` of sample `t / 8`. -/
theorem iblk0_at (c : Dev nD) (t : Fin cfg0.N) (r : Fin 4704) (l : Fin 128) :
    iblk0 V c 0 t (Idealize.ShloMosaic.ix3 (0 : Fin 1) r l)
      = V c main_v0 (Idealize.ShloMosaic.ix3 (⟨t.val / 8, sample_lt t⟩ : Fin 8) (⟨t.val % 8 * 4704 + r.val, by have := r.isLt; omega⟩ : Fin 37632) l) := by
  blk_point [iblk0, idx0_0 t]

/-- The sum over a piece, and the sum of squares. -/
def pieceSum (x : Vec Ideal S1x4704x128 .f32) : EReal := ∑ r : Fin 4704, ∑ l : Fin 128, x (Idealize.ShloMosaic.ix3 (0 : Fin 1) r l)
def pieceSq (x : Vec Ideal S1x4704x128 .f32) : EReal :=
  ∑ r : Fin 4704, ∑ l : Fin 128, x (Idealize.ShloMosaic.ix3 (0 : Fin 1) r l) * x (Idealize.ShloMosaic.ix3 (0 : Fin 1) r l)

/-- The first word of scratch grows by the piece's sum, -/
theorem step_sum (x : Vec Ideal S1x4704x128 .f32) (a : Vec Ideal S2 .f32) : accStep x a cell0 = a cell0 + pieceSum x := by
  have e : accStep x a cell0 = k0_pay2 x (a cell0) := if_pos rfl
  rw [e]
  unfold pieceSum
  pointwise [k0_pay2, k0_pay1]

/-- and the second by its sum of squares; -/
theorem step_sq (x : Vec Ideal S1x4704x128 .f32) (a : Vec Ideal S2 .f32) : accStep x a cell1 = a cell1 + pieceSq x := by
  have e : accStep x a cell1 = k0_pay3 x (a cell1) := if_neg (by decide)
  rw [e]
  unfold pieceSq
  pointwise [k0_pay3, k0_pay1]

/-- both start at zero. -/
theorem accZero_at (i : S2.Idx) : (accZero : Vec Ideal S2 .f32) i = 0 := by
  show Ideal.ofBits .f32 0x00000000#32 = 0
  simp

/-- Piece `s` of the sample that point `t` is in. -/
theorem run_lt (t : Fin cfg0.N) (s : Fin 8) : 8 * (t.val / 8) + s.val < cfg0.N := by
  have h := lt_of_lt_of_eq t.isLt N_0
  have hs := s.isLt
  exact lt_of_lt_of_eq (by omega : 8 * (t.val / 8) + s.val < 64) N_0.symm

/-- At a sample's last piece the first word is the sum over the sample's eight pieces, -/
theorem acc_sum (c : Dev nD) (t : Fin cfg0.N) (ht : t.val % 8 = 7) :
    acc V c t.val t.isLt cell0 = ∑ s : Fin 8, pieceSum (iblk0 V c 0 ⟨8 * (t.val / 8) + s.val, run_lt t s⟩) := by
  have h := Pipeline.eq_sum_fin_of_reset_step_apply_of_flush (fun n h (_ : Unit) => (show EReal from acc V c n h cell0)) 8 (fun _ => (0 : EReal))
    (fun t _ => pieceSum (iblk0 V c 0 t))
    (fun t h j => by show acc V c t.val t.isLt cell0 = _; rw [acc_first V c _ _ h, step_sum, accZero_at])
    (fun t h j => by show acc V c t.val t.isLt cell0 = _; rw [acc_next V c _ _ h, step_sum]) t ht ()
  exact h.trans (zero_add _)

/-- and the second the sum of squares. -/
theorem acc_sq (c : Dev nD) (t : Fin cfg0.N) (ht : t.val % 8 = 7) :
    acc V c t.val t.isLt cell1 = ∑ s : Fin 8, pieceSq (iblk0 V c 0 ⟨8 * (t.val / 8) + s.val, run_lt t s⟩) := by
  have h := Pipeline.eq_sum_fin_of_reset_step_apply_of_flush (fun n h (_ : Unit) => (show EReal from acc V c n h cell1)) 8 (fun _ => (0 : EReal))
    (fun t _ => pieceSq (iblk0 V c 0 t))
    (fun t h j => by show acc V c t.val t.isLt cell1 = _; rw [acc_first V c _ _ h, step_sq, accZero_at])
    (fun t h j => by show acc V c t.val t.isLt cell1 = _; rw [acc_next V c _ _ h, step_sq]) t ht ()
  exact h.trans (zero_add _)

/-- An array of tiles that holds the argument's elements in order. -/
def Tiles (v : Vec Ideal S8x37632x128 .f32) (x : Sample.Batch.Idx → EReal) : Prop :=
  ∀ (b : Fin 8) (k : Fin 37632) (l : Fin 128), v (Idealize.ShloMosaic.ix3 b k l) = x (Sample.place b (k.val * 128 + l.val))

/-- One element of one of the sample's eight pieces. -/
theorem piece_at (c : Dev nD) (x : Sample.Batch.Idx → EReal) (hx : Tiles (V c main_v0) x) (t : Fin cfg0.N) (s : Fin 8)
    (r : Fin 4704) (l : Fin 128) :
    iblk0 V c 0 ⟨8 * (t.val / 8) + s.val, run_lt t s⟩ (Idealize.ShloMosaic.ix3 (0 : Fin 1) r l)
      = x (Sample.place ⟨t.val / 8, sample_lt t⟩ ((s.val * 4704 + r.val) * 128 + l.val)) := by
  rw [iblk0_at, hx]
  have hs := s.isLt
  have e1 : (8 * (t.val / 8) + s.val) / 8 = t.val / 8 := by omega
  have e2 : (8 * (t.val / 8) + s.val) % 8 = s.val := by omega
  simp only [e1, e2]

theorem acc_total (c : Dev nD) (x : Sample.Batch.Idx → EReal) (hx : Tiles (V c main_v0) x) (t : Fin cfg0.N) (ht : t.val % 8 = 7) :
    acc V c t.val t.isLt cell0 = Sample.total x ⟨t.val / 8, sample_lt t⟩
    ∧ acc V c t.val t.isLt cell1 = Sample.total (fun i => x i * x i) ⟨t.val / 8, sample_lt t⟩ := by
  rw [acc_sum V c t ht, acc_sq V c t ht]
  constructor
  · rw [← Sample.total_tiles x, Finset.sum_range]
    exact Finset.sum_congr rfl fun s _ => Finset.sum_congr rfl fun r _ => Finset.sum_congr rfl fun l _ => piece_at V c x hx t s r l
  · rw [← Sample.total_tiles (fun i => x i * x i), Finset.sum_range]
    exact Finset.sum_congr rfl fun s _ => Finset.sum_congr rfl fun r _ => Finset.sum_congr rfl fun l _ =>
      congrArg₂ (· * ·) (piece_at V c x hx t s r l) (piece_at V c x hx t s r l)

/-- The sixteen words of sample `b` of the argument `x`. -/
def wordsAt (x : Sample.Batch.Idx → EReal) (b : Fin 8) : Fin 16 → Ideal .f32 :=
  coefs (F := Ideal) (Sample.total x b) (Sample.total (fun i => x i * x i) b)

/-- The first call's result. -/
theorem table (c : Dev nD) (x : Sample.Batch.Idx → EReal) (hx : Tiles (V c main_v0) x) :
    (dat0 V c).arrAt 1 cfg0.N = fun y : S8x1x16.Idx => wordsAt x (y 0) (y 2) := by
  refine (dat0 V c).arrAt_eq_of_covers 1 _ (by decide +kernel) fun t hf y => ?_
  blk_simp
  rw [after0_1]
  have ht := (flush0_1 t).mp hf
  obtain ⟨e1, e2⟩ := acc_total V c x hx t ht
  show coefs (acc V c t.val t.isLt cell0) (acc V c t.val t.isLt cell1) _ = _
  rw [e1, e2]
  refine congrArg₂ (wordsAt x) (Fin.ext ?_) (Fin.ext ?_)
  · show t.val / 8 = _
    blk_simp [idx0_1 t]
  · blk_simp [idx0_1 t]

end Cert.KernelIdeal.Gen

end
-- ==== Proof.ApplyValue.lean ====
/-
  What the second call leaves, and the kernel's result at every index: the rounded element, from its sample's words.
-/
module

public import proofs.«01_k».proof.Proof.StatsValue

@[expose] public section

set_option maxRecDepth 16384

noncomputable section

namespace Cert.KernelIdeal.Gen

open Idealize.ShloMosaic Idealize.ShloMosaic.TcCoe Idealize.SL.Sem
open Idealize.ShloMosaic.Pipeline (Dat)

/-- What the second call makes of one element `v`, from its sample's sixteen words. -/
def roundOne (w : Fin 16 → EReal) (v : EReal) : EReal :=
  let t := v - w 15
  let a := max t (-t)
  let f := (if w 0 < a then w 8 else 0) + (if w 1 < a then w 9 else 0) + (if w 2 < a then w 10 else 0) + (if w 3 < a then w 11 else 0)
    + (if w 4 < a then w 12 else 0) + (if w 5 < a then w 13 else 0) + (if w 6 < a then w 14 else 0) + w 7
  (if t < 0 then 0 - f else f) + w 15

theorem applyBlock_at (w : Fin 16 → Ideal .f32) (x : Vec Ideal S1x4704x128 .f32) (y : S1x4704x128.Idx) :
    applyBlock w x y = roundOne w (x y) := by
  pointwise [applyBlock, k1_pay1, k1_pay2, k1_pay3, k1_pay4, k1_pay5]
  rfl

section Array

variable (V : (c : Dev nD) → (b : Ref sig .tc) → Buf (Elt Ideal) ((c : Thread nD τ).loc b))

theorem idx1_2 : ∀ t : Fin cfg1.N, win1_2.index t = ![t.val / 8, t.val % 8, 0] := (by decide +kernel : ∀ t : Fin grid1.N, _)
theorem idx1_1 : ∀ t : Fin cfg1.N, win1_1.index t = ![t.val / 8, t.val % 8, 0] := (by decide +kernel : ∀ t : Fin grid1.N, _)
theorem idx1_0 : ∀ t : Fin cfg1.N, win1_0.index t = ![0, 0, 0] := (by decide +kernel : ∀ t : Fin grid1.N, _)
theorem coords1 : ∀ t : Fin cfg1.N, (grid1.coords t 0).val = t.val / 8 := (by decide +kernel : ∀ t : Fin grid1.N, _)

/-- The words that a point reads are its sample's. -/
theorem words_at (c : Dev nD) (t : Fin cfg1.N) :
    wordsOf (iblk1 V c 0 t) (grid1.coords t 0) = fun k => V c main_v1 (word (grid1.coords t 0) k) := by
  funext k
  unfold wordsOf
  blk_point [iblk1, idx1_0 t]
  all_goals rfl

/-- The second call's result. -/
theorem pieces (c : Dev nD) :
    (dat1 V c).arrAt 2 cfg1.N = fun y : S8x37632x128.Idx => roundOne (fun k => V c main_v1 (word (y 0) k)) (V c main_v0 y) := by
  refine (dat1 V c).arrAt_eq_of_covers 2 _ (by decide +kernel) fun t hf y => ?_
  blk_simp
  rw [after1_2]
  unfold rounded
  rw [applyBlock_at, words_at]
  refine congrArg₂ roundOne (funext fun k => congrArg (V c main_v1) (congrArg (fun b => word b k) (Fin.ext ?_))) ?_
  · rw [coords1 t]
    blk_simp [idx1_2 t]
  · blk_point [iblk1, idx1_2 t, idx1_1 t]

end Array

/-! ## The argument as tiles, and the tiles as the result -/

theorem cast_at (x : Vec Ideal S8x96x224x224 .f32) :
    Tiles (shapeCast S8x37632x128 x shapeCasts_S8x96x224x224_S8x37632x128) x := by
  intro b k l
  unfold Sample.place
  pointwise []
  have h1 := b.isLt
  have h2 := k.isLt
  have h3 := l.isLt
  congr 2
  · exact Fin.ext (by show k.val / 392 = (k.val * 128 + l.val) / 50176 % 96; omega)
  · exact Fin.ext (by show (b.val * 4816896 + k.val * 128 + l.val) / 224 % 224 = (k.val * 128 + l.val) / 224 % 224; omega)
  · exact Fin.ext (by show (b.val * 4816896 + k.val * 128 + l.val) % 224 = (k.val * 128 + l.val) % 224; omega)

theorem uncast_at (x : Vec Ideal S8x37632x128 .f32) (i : S8x96x224x224.Idx) :
    shapeCast S8x96x224x224 x shapeCasts_S8x37632x128_S8x96x224x224 i
      = x (Idealize.ShloMosaic.ix3 (i 0) (⟨Sample.rank i / 128, by have := Sample.rank_lt i; omega⟩ : Fin 37632) (⟨Sample.rank i % 128, by omega⟩ : Fin 128)) := by
  pointwise []
  have h0 : (i 0).val < 8 := (i 0).isLt
  have hr := Sample.rank_lt i
  have e : (i 0).val * 4816896 + (i 1).val * 50176 + (i 2).val * 224 + (i 3).val = (i 0).val * 4816896 + Sample.rank i := by
    unfold Sample.rank; omega
  have e1 : ((i 0).val * 4816896 + (i 1).val * 50176 + (i 2).val * 224 + (i 3).val) / 128 % 37632 = Sample.rank i / 128 := by
    rw [e]; omega
  have e2 : ((i 0).val * 4816896 + (i 1).val * 50176 + (i 2).val * 224 + (i 3).val) % 128 = Sample.rank i % 128 := by
    rw [e]; omega
  simp only [e1, e2]

section Whole

variable (m : (ℓ : Loc nD τ sig) → Buf (Elt Ideal) ℓ) (ρ : Dev nD → PrngReg)

/-- The argument in tiles is what the first call reads. -/
theorem V1_in (c : Dev nD) : V1 m ρ c main_v0
    = shapeCast S8x37632x128 (m ((c : Thread nD τ).loc main_arg0)) shapeCasts_S8x96x224x224_S8x37632x128 := by
  show StableHlo.after hostOps0 (W0 m ρ c) (Proc.devRef .tc main_v0) = _
  simp only [hostOps0, StableHlo.after_cons, StableHlo.after_nil]
  after_results_simp
  rfl

/-- What the second call leaves, put back in the argument's shape, is the result. -/
theorem W4_out (c : Dev nD) : W4 m ρ c (Proc.devRef .tc main_v3)
    = shapeCast S8x96x224x224 (W3 m ρ c (Proc.devRef .tc main_v2)) shapeCasts_S8x37632x128_S8x96x224x224 := by
  show StableHlo.after hostOps2 (W3 m ρ c) (Proc.devRef .tc main_v3) = _
  simp only [hostOps2, StableHlo.after_cons, StableHlo.after_nil]
  after_results_simp
  rfl

theorem V2_table (c : Dev nD) : V2 m ρ c main_v1
    = fun y : S8x1x16.Idx => wordsAt (m ((c : Thread nD τ).loc main_arg0)) (y 0) (y 2) :=
  ((W2_arr m ρ c 1).trans (table (V1 m ρ) c (m ((c : Thread nD τ).loc main_arg0)) (by rw [V1_in]; exact cast_at _)) :)

theorem V2_in (c : Dev nD) : V2 m ρ c main_v0 = V1 m ρ c main_v0 :=
  W2_of m ρ c main_v0 (by decide)

/-- The kernel's result at an index. -/
theorem result_at (c : Dev nD) (i : Sample.Batch.Idx) : W4 m ρ c (Proc.devRef .tc main_v3) i
    = roundOne (wordsAt (m ((c : Thread nD τ).loc main_arg0)) (i 0)) (m ((c : Thread nD τ).loc main_arg0) i) := by
  have e : W3 m ρ c (Proc.devRef .tc main_v2) = _ := (W3_arr m ρ c 2).trans (pieces (V2 m ρ) c)
  rw [W4_out, uncast_at, e]
  refine congrArg₂ roundOne ?_ ?_
  · rw [V2_table]
    rfl
  · rw [V2_in, V1_in]
    refine (cast_at _ _ _ _).trans (congrArg (m ((c : Thread nD τ).loc main_arg0)) ?_)
    have h : Sample.rank i / 128 * 128 + Sample.rank i % 128 = Sample.rank i := by omega
    show Sample.place (i 0) (Sample.rank i / 128 * 128 + Sample.rank i % 128) = i
    rw [h, Sample.place_rank]

end Whole

end Cert.KernelIdeal.Gen

end
-- ==== Proof.Number.lean ====
/-
  The numbers that the two programs write down, as real numbers.
-/
module

public import Idealize.ShloMosaic.Lib.IdealHost

@[expose] public section

noncomputable section

namespace Cert.Number

open Idealize.ShloMosaic

/-- The fifteen boundaries. -/
def edge : Fin 15 → ℝ :=
  ![-10041583/4194304, -3853307/2097152, -11950411/8388608, -9467383/8388608, -6984355/8388608, -2334969/4194304, -620757/2097152, 0, 620757/2097152, 2334969/4194304, 6984355/8388608, 9467383/8388608, 11950411/8388608, 3853307/2097152, 10041583/4194304]

/-- The sixteen levels. -/
def lev : Fin 16 → ℝ :=
  ![-11283097/4194304, -8800069/4194304, -6613159/4194304, -1334313/1048576, -16520525/16777216, -11416895/16777216, -7262857/16777216, -2669255/16777216, 2669255/16777216, 7262857/16777216, 11416895/16777216, 16520525/16777216, 1334313/1048576, 6613159/4194304, 8800069/4194304, 11283097/4194304]

/-- The seven steps from one level to the next above zero. -/
def gap : Fin 7 → ℝ :=
  ![2296801/8388608, 2077019/8388608, 2551815/8388608, 4828483/16777216, 1275907/4194304, 1093455/2097152, 620757/1048576]

/-! One by one. -/

theorem edge0 : edge 0 = -10041583/4194304 := rfl
theorem edge1 : edge 1 = -3853307/2097152 := rfl
theorem edge2 : edge 2 = -11950411/8388608 := rfl
theorem edge3 : edge 3 = -9467383/8388608 := rfl
theorem edge4 : edge 4 = -6984355/8388608 := rfl
theorem edge5 : edge 5 = -2334969/4194304 := rfl
theorem edge6 : edge 6 = -620757/2097152 := rfl
theorem edge7 : edge 7 = 0 := rfl
theorem edge8 : edge 8 = 620757/2097152 := rfl
theorem edge9 : edge 9 = 2334969/4194304 := rfl
theorem edge10 : edge 10 = 6984355/8388608 := rfl
theorem edge11 : edge 11 = 9467383/8388608 := rfl
theorem edge12 : edge 12 = 11950411/8388608 := rfl
theorem edge13 : edge 13 = 3853307/2097152 := rfl
theorem edge14 : edge 14 = 10041583/4194304 := rfl
theorem lev0 : lev 0 = -11283097/4194304 := rfl
theorem lev1 : lev 1 = -8800069/4194304 := rfl
theorem lev2 : lev 2 = -6613159/4194304 := rfl
theorem lev3 : lev 3 = -1334313/1048576 := rfl
theorem lev4 : lev 4 = -16520525/16777216 := rfl
theorem lev5 : lev 5 = -11416895/16777216 := rfl
theorem lev6 : lev 6 = -7262857/16777216 := rfl
theorem lev7 : lev 7 = -2669255/16777216 := rfl
theorem lev8 : lev 8 = 2669255/16777216 := rfl
theorem lev9 : lev 9 = 7262857/16777216 := rfl
theorem lev10 : lev 10 = 11416895/16777216 := rfl
theorem lev11 : lev 11 = 16520525/16777216 := rfl
theorem lev12 : lev 12 = 1334313/1048576 := rfl
theorem lev13 : lev 13 = 6613159/4194304 := rfl
theorem lev14 : lev 14 = 8800069/4194304 := rfl
theorem lev15 : lev 15 = 11283097/4194304 := rfl
theorem gap0 : gap 0 = 2296801/8388608 := rfl
theorem gap1 : gap 1 = 2077019/8388608 := rfl
theorem gap2 : gap 2 = 2551815/8388608 := rfl
theorem gap3 : gap 3 = 4828483/16777216 := rfl
theorem gap4 : gap 4 = 1275907/4194304 := rfl
theorem gap5 : gap 5 = 1093455/2097152 := rfl
theorem gap6 : gap 6 = 620757/1048576 := rfl

/-- The first level above zero. -/
def base : ℝ := 2669255/16777216

/-- The number that keeps a division from failing, which is also the bound under which a sample counts as flat. -/
def eps : ℝ := 2305843/2305843009213693952

theorem eps_pos : 0 < eps := by unfold eps; norm_num

theorem size_word : Ideal.ofBits .f32 0x4A930000#32 = ((4816896 : ℝ) : EReal) := by
  simp [Ideal.ofBits, Ideal.ieee, -EReal.coe_mul]; norm_num
theorem less_word : Ideal.ofBits .f32 0x4A92FFFE#32 = ((4816895 : ℝ) : EReal) := by
  simp [Ideal.ofBits, Ideal.ieee, -EReal.coe_mul]; norm_num
theorem eps_word : Ideal.ofBits .f32 0x2B8CBCCC#32 = (eps : EReal) := by
  simp [Ideal.ofBits, Ideal.ieee, -EReal.coe_mul, eps]; norm_num
theorem inf_word : Ideal.ofBits .f32 0x7F800000#32 = ⊤ := by
  simp [Ideal.ofBits, Ideal.ieee]

theorem lev_word0 : Ideal.ofBits .f32 0xC02C2A99#32 = ((lev 0 : ℝ) : EReal) := by
  simp [Ideal.ofBits, Ideal.ieee, -EReal.coe_mul, lev0]; norm_num
theorem lev_word1 : Ideal.ofBits .f32 0xC0064745#32 = ((lev 1 : ℝ) : EReal) := by
  simp [Ideal.ofBits, Ideal.ieee, -EReal.coe_mul, lev1]; norm_num
theorem lev_word2 : Ideal.ofBits .f32 0xBFC9D14E#32 = ((lev 2 : ℝ) : EReal) := by
  simp [Ideal.ofBits, Ideal.ieee, -EReal.coe_mul, lev2]; norm_num
theorem lev_word3 : Ideal.ofBits .f32 0xBFA2E148#32 = ((lev 3 : ℝ) : EReal) := by
  simp [Ideal.ofBits, Ideal.ieee, -EReal.coe_mul, lev3]; norm_num
theorem lev_word4 : Ideal.ofBits .f32 0xBF7C154D#32 = ((lev 4 : ℝ) : EReal) := by
  simp [Ideal.ofBits, Ideal.ieee, -EReal.coe_mul, lev4]; norm_num
theorem lev_word5 : Ideal.ofBits .f32 0xBF2E353F#32 = ((lev 5 : ℝ) : EReal) := by
  simp [Ideal.ofBits, Ideal.ieee, -EReal.coe_mul, lev5]; norm_num
theorem lev_word6 : Ideal.ofBits .f32 0xBEDDA512#32 = ((lev 6 : ℝ) : EReal) := by
  simp [Ideal.ofBits, Ideal.ieee, -EReal.coe_mul, lev6]; norm_num
theorem lev_word7 : Ideal.ofBits .f32 0xBE22EB1C#32 = ((lev 7 : ℝ) : EReal) := by
  simp [Ideal.ofBits, Ideal.ieee, -EReal.coe_mul, lev7]; norm_num
theorem lev_word8 : Ideal.ofBits .f32 0x3E22EB1C#32 = ((lev 8 : ℝ) : EReal) := by
  simp [Ideal.ofBits, Ideal.ieee, -EReal.coe_mul, lev8]; norm_num
theorem lev_word9 : Ideal.ofBits .f32 0x3EDDA512#32 = ((lev 9 : ℝ) : EReal) := by
  simp [Ideal.ofBits, Ideal.ieee, -EReal.coe_mul, lev9]; norm_num
theorem lev_word10 : Ideal.ofBits .f32 0x3F2E353F#32 = ((lev 10 : ℝ) : EReal) := by
  simp [Ideal.ofBits, Ideal.ieee, -EReal.coe_mul, lev10]; norm_num
theorem lev_word11 : Ideal.ofBits .f32 0x3F7C154D#32 = ((lev 11 : ℝ) : EReal) := by
  simp [Ideal.ofBits, Ideal.ieee, -EReal.coe_mul, lev11]; norm_num
theorem lev_word12 : Ideal.ofBits .f32 0x3FA2E148#32 = ((lev 12 : ℝ) : EReal) := by
  simp [Ideal.ofBits, Ideal.ieee, -EReal.coe_mul, lev12]; norm_num
theorem lev_word13 : Ideal.ofBits .f32 0x3FC9D14E#32 = ((lev 13 : ℝ) : EReal) := by
  simp [Ideal.ofBits, Ideal.ieee, -EReal.coe_mul, lev13]; norm_num
theorem lev_word14 : Ideal.ofBits .f32 0x40064745#32 = ((lev 14 : ℝ) : EReal) := by
  simp [Ideal.ofBits, Ideal.ieee, -EReal.coe_mul, lev14]; norm_num
theorem lev_word15 : Ideal.ofBits .f32 0x402C2A99#32 = ((lev 15 : ℝ) : EReal) := by
  simp [Ideal.ofBits, Ideal.ieee, -EReal.coe_mul, lev15]; norm_num

theorem edge_word0 : Ideal.ofBits .f32 0xC01938EF#32 = ((edge 0 : ℝ) : EReal) := by
  simp [Ideal.ofBits, Ideal.ieee, -EReal.coe_mul, edge0]; norm_num
theorem edge_word1 : Ideal.ofBits .f32 0xBFEB2FEC#32 = ((edge 1 : ℝ) : EReal) := by
  simp [Ideal.ofBits, Ideal.ieee, -EReal.coe_mul, edge1]; norm_num
theorem edge_word2 : Ideal.ofBits .f32 0xBFB6594B#32 = ((edge 2 : ℝ) : EReal) := by
  simp [Ideal.ofBits, Ideal.ieee, -EReal.coe_mul, edge2]; norm_num
theorem edge_word3 : Ideal.ofBits .f32 0xBF9075F7#32 = ((edge 3 : ℝ) : EReal) := by
  simp [Ideal.ofBits, Ideal.ieee, -EReal.coe_mul, edge3]; norm_num
theorem edge_word4 : Ideal.ofBits .f32 0xBF552546#32 = ((edge 4 : ℝ) : EReal) := by
  simp [Ideal.ofBits, Ideal.ieee, -EReal.coe_mul, edge4]; norm_num
theorem edge_word5 : Ideal.ofBits .f32 0xBF0E83E4#32 = ((edge 5 : ℝ) : EReal) := by
  simp [Ideal.ofBits, Ideal.ieee, -EReal.coe_mul, edge5]; norm_num
theorem edge_word6 : Ideal.ofBits .f32 0xBE978D50#32 = ((edge 6 : ℝ) : EReal) := by
  simp [Ideal.ofBits, Ideal.ieee, -EReal.coe_mul, edge6]; norm_num
theorem edge_word7 : Ideal.ofBits .f32 0x00000000#32 = ((edge 7 : ℝ) : EReal) := by
  simp [edge7]
theorem edge_word8 : Ideal.ofBits .f32 0x3E978D50#32 = ((edge 8 : ℝ) : EReal) := by
  simp [Ideal.ofBits, Ideal.ieee, -EReal.coe_mul, edge8]; norm_num
theorem edge_word9 : Ideal.ofBits .f32 0x3F0E83E4#32 = ((edge 9 : ℝ) : EReal) := by
  simp [Ideal.ofBits, Ideal.ieee, -EReal.coe_mul, edge9]; norm_num
theorem edge_word10 : Ideal.ofBits .f32 0x3F552546#32 = ((edge 10 : ℝ) : EReal) := by
  simp [Ideal.ofBits, Ideal.ieee, -EReal.coe_mul, edge10]; norm_num
theorem edge_word11 : Ideal.ofBits .f32 0x3F9075F7#32 = ((edge 11 : ℝ) : EReal) := by
  simp [Ideal.ofBits, Ideal.ieee, -EReal.coe_mul, edge11]; norm_num
theorem edge_word12 : Ideal.ofBits .f32 0x3FB6594B#32 = ((edge 12 : ℝ) : EReal) := by
  simp [Ideal.ofBits, Ideal.ieee, -EReal.coe_mul, edge12]; norm_num
theorem edge_word13 : Ideal.ofBits .f32 0x3FEB2FEC#32 = ((edge 13 : ℝ) : EReal) := by
  simp [Ideal.ofBits, Ideal.ieee, -EReal.coe_mul, edge13]; norm_num
theorem edge_word14 : Ideal.ofBits .f32 0x401938EF#32 = ((edge 14 : ℝ) : EReal) := by
  simp [Ideal.ofBits, Ideal.ieee, -EReal.coe_mul, edge14]; norm_num

theorem gap_word0 : Ideal.ofBits .f32 0x3E8C2F84#32 = ((gap 0 : ℝ) : EReal) := by
  simp [Ideal.ofBits, Ideal.ieee, -EReal.coe_mul, gap0]; norm_num
theorem gap_word1 : Ideal.ofBits .f32 0x3E7D8AD8#32 = ((gap 1 : ℝ) : EReal) := by
  simp [Ideal.ofBits, Ideal.ieee, -EReal.coe_mul, gap1]; norm_num
theorem gap_word2 : Ideal.ofBits .f32 0x3E9BC01C#32 = ((gap 2 : ℝ) : EReal) := by
  simp [Ideal.ofBits, Ideal.ieee, -EReal.coe_mul, gap2]; norm_num
theorem gap_word3 : Ideal.ofBits .f32 0x3E935A86#32 = ((gap 3 : ℝ) : EReal) := by
  simp [Ideal.ofBits, Ideal.ieee, -EReal.coe_mul, gap3]; norm_num
theorem gap_word4 : Ideal.ofBits .f32 0x3E9BC018#32 = ((gap 4 : ℝ) : EReal) := by
  simp [Ideal.ofBits, Ideal.ieee, -EReal.coe_mul, gap4]; norm_num
theorem gap_word5 : Ideal.ofBits .f32 0x3F057A78#32 = ((gap 5 : ℝ) : EReal) := by
  simp [Ideal.ofBits, Ideal.ieee, -EReal.coe_mul, gap5]; norm_num
theorem gap_word6 : Ideal.ofBits .f32 0x3F178D50#32 = ((gap 6 : ℝ) : EReal) := by
  simp [Ideal.ofBits, Ideal.ieee, -EReal.coe_mul, gap6]; norm_num
theorem base_word : Ideal.ofBits .f32 0x3E22EB1C#32 = ((base : ℝ) : EReal) := by
  simp [Ideal.ofBits, Ideal.ieee, -EReal.coe_mul, base]; norm_num

theorem one_word : (FloatOps.sitofp (F := Ideal) FTy.f32 1#32) = ((1 : ℝ) : EReal) := by
  show (((1#32).toInt : ℝ) : EReal) = _
  norm_num

end Cert.Number

end
-- ==== Proof.Equation.lean ====
/-
  The equation over the real numbers: climbing the levels from zero, as the kernel does, ends at the level that the number
  of boundaries below picks, as the reference does; and the deviation from the two sums is the deviation from the distances.
-/
module

public import proofs.«01_k».proof.Proof.Number
public import proofs.«01_k».proof.Proof.Sample

@[expose] public section

set_option maxRecDepth 16384

noncomputable section

namespace Cert.Equation

open Cert.Number Idealize.ShloMosaic

theorem edge_mono : Monotone edge := by
  rw [Fin.monotone_iff_le_succ]
  intro i
  fin_cases i
  exacts [show edge 0 ≤ edge 1 by norm_num [edge0, edge1],
    show edge 1 ≤ edge 2 by norm_num [edge1, edge2],
    show edge 2 ≤ edge 3 by norm_num [edge2, edge3],
    show edge 3 ≤ edge 4 by norm_num [edge3, edge4],
    show edge 4 ≤ edge 5 by norm_num [edge4, edge5],
    show edge 5 ≤ edge 6 by norm_num [edge5, edge6],
    show edge 6 ≤ edge 7 by norm_num [edge6, edge7],
    show edge 7 ≤ edge 8 by norm_num [edge7, edge8],
    show edge 8 ≤ edge 9 by norm_num [edge8, edge9],
    show edge 9 ≤ edge 10 by norm_num [edge9, edge10],
    show edge 10 ≤ edge 11 by norm_num [edge10, edge11],
    show edge 11 ≤ edge 12 by norm_num [edge11, edge12],
    show edge 12 ≤ edge 13 by norm_num [edge12, edge13],
    show edge 13 ≤ edge 14 by norm_num [edge13, edge14]]

/-- How many boundaries are below `z`. -/
def numBelow (z : ℝ) : ℕ := (Finset.univ.filter fun k : Fin 15 => edge k < z).card

/-- The level at a number of boundaries. -/
def levAt (n : ℕ) : ℝ := lev ⟨min n 15, by omega⟩

theorem numBelow_eq (z : ℝ) (j : ℕ) (hj : j ≤ 15) (hlo : ∀ k : Fin 15, k.val < j → edge k < z) (hhi : ∀ k : Fin 15, j ≤ k.val → z ≤ edge k) :
    numBelow z = j := by
  have e : (Finset.univ.filter fun k : Fin 15 => edge k < z) = Finset.univ.filter fun k : Fin 15 => k.val < j :=
    Finset.filter_congr fun k _ => ⟨fun h => by by_contra hk; exact absurd h (not_lt.2 (hhi k (by omega))), hlo k⟩
  unfold numBelow
  rw [e]
  interval_cases j <;> decide

/-- Above boundary `j` and not above the next. -/
theorem numBelow_mid (z : ℝ) (j : Fin 14) (hlo : edge j.castSucc < z) (hhi : z ≤ edge j.succ) : numBelow z = j.val + 1 :=
  numBelow_eq z (j.val + 1) (by omega) (fun k hk => lt_of_le_of_lt (edge_mono (by show k.val ≤ j.val; omega)) hlo)
    (fun k hk => hhi.trans (edge_mono (by show j.val + 1 ≤ k.val; omega)))

theorem numBelow_low (z : ℝ) (hhi : z ≤ edge 0) : numBelow z = 0 :=
  numBelow_eq z 0 (by omega) (fun k hk => absurd hk (by omega)) (fun k _ => hhi.trans (edge_mono (Fin.zero_le k)))

theorem numBelow_high (z : ℝ) (hlo : edge 14 < z) : numBelow z = 15 :=
  numBelow_eq z 15 (by omega) (fun k _ => lt_of_le_of_lt (edge_mono (Fin.le_last k)) hlo) (fun k hk => absurd k.isLt (by omega))

/-- The steps below `a`, added up. -/
def climb (a : ℝ) : ℝ :=
  (if edge 8 < a then gap 0 else 0) + (if edge 9 < a then gap 1 else 0) + (if edge 10 < a then gap 2 else 0) + (if edge 11 < a then gap 3 else 0)
    + (if edge 12 < a then gap 4 else 0) + (if edge 13 < a then gap 5 else 0) + (if edge 14 < a then gap 6 else 0) + base

/-- Above exactly the first `n` of the upper boundaries, the climb is a level. -/
theorem climb0 (a : ℝ) (hhi : a ≤ edge 8) : climb a = lev 8 := by
  unfold climb
  rw [if_neg (not_lt.2 (hhi.trans (edge_mono (by decide : ((8 : Fin 15) ≤ 8))))),
    if_neg (not_lt.2 (hhi.trans (edge_mono (by decide : ((8 : Fin 15) ≤ 9))))),
    if_neg (not_lt.2 (hhi.trans (edge_mono (by decide : ((8 : Fin 15) ≤ 10))))),
    if_neg (not_lt.2 (hhi.trans (edge_mono (by decide : ((8 : Fin 15) ≤ 11))))),
    if_neg (not_lt.2 (hhi.trans (edge_mono (by decide : ((8 : Fin 15) ≤ 12))))),
    if_neg (not_lt.2 (hhi.trans (edge_mono (by decide : ((8 : Fin 15) ≤ 13))))),
    if_neg (not_lt.2 (hhi.trans (edge_mono (by decide : ((8 : Fin 15) ≤ 14)))))]
  norm_num [base, lev8]

theorem climb1 (a : ℝ) (hlo : edge 8 < a) (hhi : a ≤ edge 9) : climb a = lev 9 := by
  unfold climb
  rw [if_pos (lt_of_le_of_lt (edge_mono (by decide : ((8 : Fin 15) ≤ 8))) hlo),
    if_neg (not_lt.2 (hhi.trans (edge_mono (by decide : ((9 : Fin 15) ≤ 9))))),
    if_neg (not_lt.2 (hhi.trans (edge_mono (by decide : ((9 : Fin 15) ≤ 10))))),
    if_neg (not_lt.2 (hhi.trans (edge_mono (by decide : ((9 : Fin 15) ≤ 11))))),
    if_neg (not_lt.2 (hhi.trans (edge_mono (by decide : ((9 : Fin 15) ≤ 12))))),
    if_neg (not_lt.2 (hhi.trans (edge_mono (by decide : ((9 : Fin 15) ≤ 13))))),
    if_neg (not_lt.2 (hhi.trans (edge_mono (by decide : ((9 : Fin 15) ≤ 14)))))]
  norm_num [gap0, base, lev9]

theorem climb2 (a : ℝ) (hlo : edge 9 < a) (hhi : a ≤ edge 10) : climb a = lev 10 := by
  unfold climb
  rw [if_pos (lt_of_le_of_lt (edge_mono (by decide : ((8 : Fin 15) ≤ 9))) hlo),
    if_pos (lt_of_le_of_lt (edge_mono (by decide : ((9 : Fin 15) ≤ 9))) hlo),
    if_neg (not_lt.2 (hhi.trans (edge_mono (by decide : ((10 : Fin 15) ≤ 10))))),
    if_neg (not_lt.2 (hhi.trans (edge_mono (by decide : ((10 : Fin 15) ≤ 11))))),
    if_neg (not_lt.2 (hhi.trans (edge_mono (by decide : ((10 : Fin 15) ≤ 12))))),
    if_neg (not_lt.2 (hhi.trans (edge_mono (by decide : ((10 : Fin 15) ≤ 13))))),
    if_neg (not_lt.2 (hhi.trans (edge_mono (by decide : ((10 : Fin 15) ≤ 14)))))]
  norm_num [gap0, gap1, base, lev10]

theorem climb3 (a : ℝ) (hlo : edge 10 < a) (hhi : a ≤ edge 11) : climb a = lev 11 := by
  unfold climb
  rw [if_pos (lt_of_le_of_lt (edge_mono (by decide : ((8 : Fin 15) ≤ 10))) hlo),
    if_pos (lt_of_le_of_lt (edge_mono (by decide : ((9 : Fin 15) ≤ 10))) hlo),
    if_pos (lt_of_le_of_lt (edge_mono (by decide : ((10 : Fin 15) ≤ 10))) hlo),
    if_neg (not_lt.2 (hhi.trans (edge_mono (by decide : ((11 : Fin 15) ≤ 11))))),
    if_neg (not_lt.2 (hhi.trans (edge_mono (by decide : ((11 : Fin 15) ≤ 12))))),
    if_neg (not_lt.2 (hhi.trans (edge_mono (by decide : ((11 : Fin 15) ≤ 13))))),
    if_neg (not_lt.2 (hhi.trans (edge_mono (by decide : ((11 : Fin 15) ≤ 14)))))]
  norm_num [gap0, gap1, gap2, base, lev11]

theorem climb4 (a : ℝ) (hlo : edge 11 < a) (hhi : a ≤ edge 12) : climb a = lev 12 := by
  unfold climb
  rw [if_pos (lt_of_le_of_lt (edge_mono (by decide : ((8 : Fin 15) ≤ 11))) hlo),
    if_pos (lt_of_le_of_lt (edge_mono (by decide : ((9 : Fin 15) ≤ 11))) hlo),
    if_pos (lt_of_le_of_lt (edge_mono (by decide : ((10 : Fin 15) ≤ 11))) hlo),
    if_pos (lt_of_le_of_lt (edge_mono (by decide : ((11 : Fin 15) ≤ 11))) hlo),
    if_neg (not_lt.2 (hhi.trans (edge_mono (by decide : ((12 : Fin 15) ≤ 12))))),
    if_neg (not_lt.2 (hhi.trans (edge_mono (by decide : ((12 : Fin 15) ≤ 13))))),
    if_neg (not_lt.2 (hhi.trans (edge_mono (by decide : ((12 : Fin 15) ≤ 14)))))]
  norm_num [gap0, gap1, gap2, gap3, base, lev12]

theorem climb5 (a : ℝ) (hlo : edge 12 < a) (hhi : a ≤ edge 13) : climb a = lev 13 := by
  unfold climb
  rw [if_pos (lt_of_le_of_lt (edge_mono (by decide : ((8 : Fin 15) ≤ 12))) hlo),
    if_pos (lt_of_le_of_lt (edge_mono (by decide : ((9 : Fin 15) ≤ 12))) hlo),
    if_pos (lt_of_le_of_lt (edge_mono (by decide : ((10 : Fin 15) ≤ 12))) hlo),
    if_pos (lt_of_le_of_lt (edge_mono (by decide : ((11 : Fin 15) ≤ 12))) hlo),
    if_pos (lt_of_le_of_lt (edge_mono (by decide : ((12 : Fin 15) ≤ 12))) hlo),
    if_neg (not_lt.2 (hhi.trans (edge_mono (by decide : ((13 : Fin 15) ≤ 13))))),
    if_neg (not_lt.2 (hhi.trans (edge_mono (by decide : ((13 : Fin 15) ≤ 14)))))]
  norm_num [gap0, gap1, gap2, gap3, gap4, base, lev13]

theorem climb6 (a : ℝ) (hlo : edge 13 < a) (hhi : a ≤ edge 14) : climb a = lev 14 := by
  unfold climb
  rw [if_pos (lt_of_le_of_lt (edge_mono (by decide : ((8 : Fin 15) ≤ 13))) hlo),
    if_pos (lt_of_le_of_lt (edge_mono (by decide : ((9 : Fin 15) ≤ 13))) hlo),
    if_pos (lt_of_le_of_lt (edge_mono (by decide : ((10 : Fin 15) ≤ 13))) hlo),
    if_pos (lt_of_le_of_lt (edge_mono (by decide : ((11 : Fin 15) ≤ 13))) hlo),
    if_pos (lt_of_le_of_lt (edge_mono (by decide : ((12 : Fin 15) ≤ 13))) hlo),
    if_pos (lt_of_le_of_lt (edge_mono (by decide : ((13 : Fin 15) ≤ 13))) hlo),
    if_neg (not_lt.2 (hhi.trans (edge_mono (by decide : ((14 : Fin 15) ≤ 14)))))]
  norm_num [gap0, gap1, gap2, gap3, gap4, gap5, base, lev14]

theorem climb7 (a : ℝ) (hlo : edge 14 < a) : climb a = lev 15 := by
  unfold climb
  rw [if_pos (lt_of_le_of_lt (edge_mono (by decide : ((8 : Fin 15) ≤ 14))) hlo),
    if_pos (lt_of_le_of_lt (edge_mono (by decide : ((9 : Fin 15) ≤ 14))) hlo),
    if_pos (lt_of_le_of_lt (edge_mono (by decide : ((10 : Fin 15) ≤ 14))) hlo),
    if_pos (lt_of_le_of_lt (edge_mono (by decide : ((11 : Fin 15) ≤ 14))) hlo),
    if_pos (lt_of_le_of_lt (edge_mono (by decide : ((12 : Fin 15) ≤ 14))) hlo),
    if_pos (lt_of_le_of_lt (edge_mono (by decide : ((13 : Fin 15) ≤ 14))) hlo),
    if_pos (lt_of_le_of_lt (edge_mono (by decide : ((14 : Fin 15) ≤ 14))) hlo)]
  norm_num [gap0, gap1, gap2, gap3, gap4, gap5, gap6, base, lev15]

/-- The boundaries and the levels are symmetric about zero. -/
theorem edge_symm (k : Fin 7) : edge ⟨6 - k.val, by omega⟩ = -edge ⟨8 + k.val, by omega⟩ := by
  fin_cases k
  exacts [show edge 6 = -edge 8 by norm_num [edge6, edge8],
    show edge 5 = -edge 9 by norm_num [edge5, edge9],
    show edge 4 = -edge 10 by norm_num [edge4, edge10],
    show edge 3 = -edge 11 by norm_num [edge3, edge11],
    show edge 2 = -edge 12 by norm_num [edge2, edge12],
    show edge 1 = -edge 13 by norm_num [edge1, edge13],
    show edge 0 = -edge 14 by norm_num [edge0, edge14]]

theorem lev_symm (k : Fin 8) : lev ⟨7 - k.val, by omega⟩ = -lev ⟨8 + k.val, by omega⟩ := by
  fin_cases k
  exacts [show lev 7 = -lev 8 by norm_num [lev7, lev8],
    show lev 6 = -lev 9 by norm_num [lev6, lev9],
    show lev 5 = -lev 10 by norm_num [lev5, lev10],
    show lev 4 = -lev 11 by norm_num [lev4, lev11],
    show lev 3 = -lev 12 by norm_num [lev3, lev12],
    show lev 2 = -lev 13 by norm_num [lev2, lev13],
    show lev 1 = -lev 14 by norm_num [lev1, lev14],
    show lev 0 = -lev 15 by norm_num [lev0, lev15]]

theorem edge_zero : edge 7 = 0 := edge7

/-- Climbing from zero towards `z`, on either side, ends at the level of `z`, unless `z` is one of the lower boundaries. -/
theorem climb_eq (z : ℝ) (hz : ∀ k : Fin 15, k.val < 8 → z ≠ edge k) :
    (if z < 0 then 0 - climb (max z (-z)) else climb (max z (-z))) = levAt (numBelow z) := by
  have e7 := edge_zero
  rcases lt_or_ge z 0 with h | h
  · rw [if_pos h, max_eq_right (by linarith)]
    rcases lt_or_ge (edge 6) z with h0 | h0
    · have u : z < edge 7 := by rw [e7]; exact h
      rw [numBelow_mid z 6 h0 u.le]
      have hi : -z ≤ edge 8 := by
        have s2 : edge 6 = -edge 8 := edge_symm 0
        linarith
      rw [climb0 (-z) hi]
      have s3 : lev 7 = -lev 8 := lev_symm 0
      show 0 - lev 8 = lev 7
      rw [s3]; ring
    rcases lt_or_ge (edge 5) z with h1 | h1
    · have u : z < edge 6 := lt_of_le_of_ne h0 (hz 6 (by decide))
      rw [numBelow_mid z 5 h1 u.le]
      have s1 := edge_symm 0
      have lo : edge 8 < -z := by
        have s2 : edge 6 = -edge 8 := s1
        linarith
      have hi : -z ≤ edge 9 := by
        have s2 : edge 5 = -edge 9 := edge_symm 1
        linarith
      rw [climb1 (-z) lo hi]
      have s3 : lev 6 = -lev 9 := lev_symm 1
      show 0 - lev 9 = lev 6
      rw [s3]; ring
    rcases lt_or_ge (edge 4) z with h2 | h2
    · have u : z < edge 5 := lt_of_le_of_ne h1 (hz 5 (by decide))
      rw [numBelow_mid z 4 h2 u.le]
      have s1 := edge_symm 1
      have lo : edge 9 < -z := by
        have s2 : edge 5 = -edge 9 := s1
        linarith
      have hi : -z ≤ edge 10 := by
        have s2 : edge 4 = -edge 10 := edge_symm 2
        linarith
      rw [climb2 (-z) lo hi]
      have s3 : lev 5 = -lev 10 := lev_symm 2
      show 0 - lev 10 = lev 5
      rw [s3]; ring
    rcases lt_or_ge (edge 3) z with h3 | h3
    · have u : z < edge 4 := lt_of_le_of_ne h2 (hz 4 (by decide))
      rw [numBelow_mid z 3 h3 u.le]
      have s1 := edge_symm 2
      have lo : edge 10 < -z := by
        have s2 : edge 4 = -edge 10 := s1
        linarith
      have hi : -z ≤ edge 11 := by
        have s2 : edge 3 = -edge 11 := edge_symm 3
        linarith
      rw [climb3 (-z) lo hi]
      have s3 : lev 4 = -lev 11 := lev_symm 3
      show 0 - lev 11 = lev 4
      rw [s3]; ring
    rcases lt_or_ge (edge 2) z with h4 | h4
    · have u : z < edge 3 := lt_of_le_of_ne h3 (hz 3 (by decide))
      rw [numBelow_mid z 2 h4 u.le]
      have s1 := edge_symm 3
      have lo : edge 11 < -z := by
        have s2 : edge 3 = -edge 11 := s1
        linarith
      have hi : -z ≤ edge 12 := by
        have s2 : edge 2 = -edge 12 := edge_symm 4
        linarith
      rw [climb4 (-z) lo hi]
      have s3 : lev 3 = -lev 12 := lev_symm 4
      show 0 - lev 12 = lev 3
      rw [s3]; ring
    rcases lt_or_ge (edge 1) z with h5 | h5
    · have u : z < edge 2 := lt_of_le_of_ne h4 (hz 2 (by decide))
      rw [numBelow_mid z 1 h5 u.le]
      have s1 := edge_symm 4
      have lo : edge 12 < -z := by
        have s2 : edge 2 = -edge 12 := s1
        linarith
      have hi : -z ≤ edge 13 := by
        have s2 : edge 1 = -edge 13 := edge_symm 5
        linarith
      rw [climb5 (-z) lo hi]
      have s3 : lev 2 = -lev 13 := lev_symm 5
      show 0 - lev 13 = lev 2
      rw [s3]; ring
    rcases lt_or_ge (edge 0) z with h6 | h6
    · have u : z < edge 1 := lt_of_le_of_ne h5 (hz 1 (by decide))
      rw [numBelow_mid z 0 h6 u.le]
      have s1 := edge_symm 5
      have lo : edge 13 < -z := by
        have s2 : edge 1 = -edge 13 := s1
        linarith
      have hi : -z ≤ edge 14 := by
        have s2 : edge 0 = -edge 14 := edge_symm 6
        linarith
      rw [climb6 (-z) lo hi]
      have s3 : lev 1 = -lev 14 := lev_symm 6
      show 0 - lev 14 = lev 1
      rw [s3]; ring
    have u : z < edge 0 := lt_of_le_of_ne h6 (hz 0 (by decide))
    rw [numBelow_low z u.le]
    have s1 := edge_symm 6
    have lo : edge 14 < -z := by
      have s2 : edge 0 = -edge 14 := s1
      linarith
    rw [climb7 (-z) lo]
    have s3 : lev 0 = -lev 15 := lev_symm 7
    show 0 - lev 15 = lev 0
    rw [s3]; ring
  · have hp : 0 < z := lt_of_le_of_ne h (by rw [← e7]; exact (hz 7 (by decide)).symm)
    rw [if_neg (not_lt.2 h), max_eq_left (by linarith)]
    rcases lt_or_ge (edge 8) z with h0 | h0
    swap
    · have p : edge 7 < z := by rw [e7]; exact hp
      rw [numBelow_mid z 7 p h0]
      exact climb0 z h0
    rcases lt_or_ge (edge 9) z with h1 | h1
    swap
    · rw [numBelow_mid z 8 h0 h1]
      exact climb1 z h0 h1
    rcases lt_or_ge (edge 10) z with h2 | h2
    swap
    · rw [numBelow_mid z 9 h1 h2]
      exact climb2 z h1 h2
    rcases lt_or_ge (edge 11) z with h3 | h3
    swap
    · rw [numBelow_mid z 10 h2 h3]
      exact climb3 z h2 h3
    rcases lt_or_ge (edge 12) z with h4 | h4
    swap
    · rw [numBelow_mid z 11 h3 h4]
      exact climb4 z h3 h4
    rcases lt_or_ge (edge 13) z with h5 | h5
    swap
    · rw [numBelow_mid z 12 h4 h5]
      exact climb5 z h4 h5
    rcases lt_or_ge (edge 14) z with h6 | h6
    swap
    · rw [numBelow_mid z 13 h5 h6]
      exact climb6 z h5 h6
    rw [numBelow_high z h6]
    exact climb7 z h6

/-! ## A sample's mean and deviation -/

/-- The number of elements of a sample. -/
theorem card_total (b : Fin 8) (u : ℝ) : Sample.total (fun _ => u) b = 4816896 * u := by
  unfold Sample.total
  rw [Finset.sum_const, Finset.card_range]
  norm_num

theorem total_sub (f g : Sample.Batch.Idx → ℝ) (b : Fin 8) : Sample.total (fun i => f i - g i) b = Sample.total f b - Sample.total g b := by
  unfold Sample.total
  exact Finset.sum_sub_distrib _ _

theorem total_mul (f : Sample.Batch.Idx → ℝ) (u : ℝ) (b : Fin 8) : Sample.total (fun i => f i * u) b = Sample.total f b * u := by
  unfold Sample.total
  exact (Finset.sum_mul _ _ _).symm

theorem total_add (f g : Sample.Batch.Idx → ℝ) (b : Fin 8) : Sample.total (fun i => f i + g i) b = Sample.total f b + Sample.total g b := by
  unfold Sample.total
  exact Finset.sum_add_distrib

/-- The mean of sample `b`. -/
def meanOf (f : Sample.Batch.Idx → ℝ) (b : Fin 8) : ℝ := Sample.total f b / 4816896

/-- The sum of the squared distances from the mean. -/
def spread (f : Sample.Batch.Idx → ℝ) (b : Fin 8) : ℝ := Sample.total (fun i => (f i - meanOf f b) * (f i - meanOf f b)) b

/-- The elements' distances from the mean add up to zero. -/
theorem total_centred (f : Sample.Batch.Idx → ℝ) (b : Fin 8) : Sample.total (fun i => f i - meanOf f b) b = 0 := by
  rw [total_sub f (fun _ => meanOf f b), card_total]
  unfold meanOf
  ring

/-- The spread from the two sums. -/
theorem spread_eq (f : Sample.Batch.Idx → ℝ) (b : Fin 8) :
    spread f b = Sample.total (fun i => f i * f i) b - Sample.total f b * meanOf f b := by
  have e : (fun i => (f i - meanOf f b) * (f i - meanOf f b))
      = fun i => (f i * f i - f i * (2 * meanOf f b)) + meanOf f b * meanOf f b := by
    funext i; ring
  unfold spread
  rw [e, total_add (fun i => f i * f i - f i * (2 * meanOf f b)) (fun _ => meanOf f b * meanOf f b), card_total,
    total_sub (fun i => f i * f i) (fun i => f i * (2 * meanOf f b)), total_mul]
  unfold meanOf
  ring

theorem spread_nonneg (f : Sample.Batch.Idx → ℝ) (b : Fin 8) : 0 ≤ spread f b := by
  unfold spread
  unfold Sample.total
  exact Finset.sum_nonneg fun k _ => mul_self_nonneg _

/-- The deviation of sample `b`. -/
def rawOf (f : Sample.Batch.Idx → ℝ) (b : Fin 8) : ℝ := Real.sqrt (spread f b / 4816895)

/-- What an element of sample `b` is made into: nothing where the sample is flat, otherwise the level of the normalised element,
    brought back to the sample's scale. -/
def answer (f : Sample.Batch.Idx → ℝ) (b : Fin 8) (v : ℝ) : ℝ :=
  if rawOf f b < eps then 0 else levAt (numBelow ((v - meanOf f b) / (rawOf f b + eps))) * (rawOf f b + eps) + meanOf f b

/-- The kernel's arithmetic over the real numbers. -/
def roundReal (w : Fin 16 → ℝ) (v : ℝ) : ℝ :=
  let t := v - w 15
  let a := max t (-t)
  let f := (if w 0 < a then w 8 else 0) + (if w 1 < a then w 9 else 0) + (if w 2 < a then w 10 else 0) + (if w 3 < a then w 11 else 0)
    + (if w 4 < a then w 12 else 0) + (if w 5 < a then w 13 else 0) + (if w 6 < a then w 14 else 0) + w 7
  (if t < 0 then 0 - f else f) + w 15

/-- The sixteen words, from a sample's mean and deviation. -/
def wordsReal (u r : ℝ) : Fin 16 → ℝ :=
  ![edge 8 * (r + eps), edge 9 * (r + eps), edge 10 * (r + eps), edge 11 * (r + eps), edge 12 * (r + eps), edge 13 * (r + eps),
    edge 14 * (r + eps), if r < eps then 0 else base * (r + eps), if r < eps then 0 else gap 0 * (r + eps),
    if r < eps then 0 else gap 1 * (r + eps), if r < eps then 0 else gap 2 * (r + eps), if r < eps then 0 else gap 3 * (r + eps),
    if r < eps then 0 else gap 4 * (r + eps), if r < eps then 0 else gap 5 * (r + eps), if r < eps then 0 else gap 6 * (r + eps),
    if r < eps then 0 else u]

/-- In a flat sample the kernel's arithmetic gives zero. -/
theorem round_flat (u r v : ℝ) (h : r < eps) : roundReal (wordsReal u r) v = 0 := by
  have e : ∀ k : Fin 16, 7 ≤ k.val → wordsReal u r k = 0 := by
    intro k hk
    fin_cases k
    all_goals first
      | exact if_pos h
      | exact absurd hk (by decide)
  unfold roundReal
  simp only [e 7 (by decide), e 8 (by decide), e 9 (by decide), e 10 (by decide), e 11 (by decide), e 12 (by decide), e 13 (by decide),
    e 14 (by decide), e 15 (by decide), ite_self, add_zero, sub_zero]

theorem scale_step (s e g z : ℝ) (hs : 0 < s) : (if e * s < z * s then g * s else 0) = (if e < z then g else 0) * s := by
  by_cases h : e < z
  · rw [if_pos h, if_pos (mul_lt_mul_of_pos_right h hs)]
  · rw [if_neg h, if_neg (fun c => h (lt_of_mul_lt_mul_right c hs.le)), zero_mul]

/-- In any other the kernel's arithmetic gives the level, at the sample's scale. -/
theorem round_level (u r v : ℝ) (hr : 0 ≤ r) (h : ¬ r < eps)
    (hz : ∀ k : Fin 15, k.val < 8 → (v - u) / (r + eps) ≠ edge k) :
    roundReal (wordsReal u r) v = levAt (numBelow ((v - u) / (r + eps))) * (r + eps) + u := by
  have hs : 0 < r + eps := add_pos_of_nonneg_of_pos hr eps_pos
  rw [← climb_eq _ hz]
  generalize hZ : (v - u) / (r + eps) = z
  generalize hS : r + eps = s at *
  have ht : v - u = z * s := by rw [← hZ]; field_simp
  have w15 : wordsReal u r 15 = u := if_neg h
  have w7 : wordsReal u r 7 = base * s := (if_neg h).trans (by rw [hS])
  have w8 : wordsReal u r 8 = gap 0 * s := (if_neg h).trans (by rw [hS])
  have w9 : wordsReal u r 9 = gap 1 * s := (if_neg h).trans (by rw [hS])
  have w10 : wordsReal u r 10 = gap 2 * s := (if_neg h).trans (by rw [hS])
  have w11 : wordsReal u r 11 = gap 3 * s := (if_neg h).trans (by rw [hS])
  have w12 : wordsReal u r 12 = gap 4 * s := (if_neg h).trans (by rw [hS])
  have w13 : wordsReal u r 13 = gap 5 * s := (if_neg h).trans (by rw [hS])
  have w14 : wordsReal u r 14 = gap 6 * s := (if_neg h).trans (by rw [hS])
  have w0 : wordsReal u r 0 = edge 8 * s := by rw [← hS]; rfl
  have w1 : wordsReal u r 1 = edge 9 * s := by rw [← hS]; rfl
  have w2 : wordsReal u r 2 = edge 10 * s := by rw [← hS]; rfl
  have w3 : wordsReal u r 3 = edge 11 * s := by rw [← hS]; rfl
  have w4 : wordsReal u r 4 = edge 12 * s := by rw [← hS]; rfl
  have w5 : wordsReal u r 5 = edge 13 * s := by rw [← hS]; rfl
  have w6 : wordsReal u r 6 = edge 14 * s := by rw [← hS]; rfl
  have ha : max (z * s) (-(z * s)) = max z (-z) * s := by
    rw [← neg_mul, max_mul_of_nonneg _ _ hs.le]
  have hn : (z * s < 0) ↔ z < 0 := by
    constructor
    · intro c; by_contra d; exact absurd c (not_lt.2 (mul_nonneg (not_lt.1 d) hs.le))
    · intro c; exact mul_neg_of_neg_of_pos c hs
  unfold roundReal
  simp only [w0, w1, w2, w3, w4, w5, w6, w7, w8, w9, w10, w11, w12, w13, w14, w15, ht, ha, scale_step _ _ _ _ hs, hn]
  unfold climb
  by_cases c : z < 0
  · rw [if_pos c, if_pos c]; ring
  · rw [if_neg c, if_neg c]; ring

/-- The kernel's arithmetic gives the answer, off the lower boundaries. -/
theorem round_eq (f : Sample.Batch.Idx → ℝ) (b : Fin 8) (v : ℝ)
    (h : rawOf f b < eps ∨ ∀ k : Fin 15, k.val < 8 → (v - meanOf f b) / (rawOf f b + eps) ≠ edge k) :
    roundReal (wordsReal (meanOf f b) (rawOf f b)) v = answer f b v := by
  unfold answer
  by_cases c : rawOf f b < eps
  · rw [if_pos c, round_flat _ _ _ c]
  · rw [if_neg c]
    exact round_level _ _ _ (Real.sqrt_nonneg _) c (h.resolve_left c)

end Cert.Equation

end
-- ==== Proof.KernelReal.lean ====
/-
  The kernel's result where the sample's elements are real numbers.
-/
module

public import proofs.«01_k».proof.Proof.ApplyValue
public import proofs.«01_k».proof.Proof.Equation

@[expose] public section

set_option maxRecDepth 16384

noncomputable section

namespace Cert.KernelIdeal.Gen

open Idealize.ShloMosaic Idealize.ShloMosaic.TcCoe Idealize.SL.Sem
open Cert.Equation Cert.Number

theorem coe_max' (a b : ℝ) : max (a : EReal) (b : EReal) = ((max a b : ℝ) : EReal) :=
  (EReal.coe_strictMono.monotone.map_max).symm

/-- A choice between real numbers, by a comparison of real numbers. -/
theorem coe_choice (a b : ℝ) (p q : EReal) (p' q' : ℝ) (hp : p = p') (hq : q = q') :
    (if (a : EReal) < (b : EReal) then p else q) = ((if a < b then p' else q' : ℝ) : EReal) := by
  by_cases h : a < b
  · rw [if_pos h, if_pos (EReal.coe_lt_coe_iff.2 h), hp]
  · rw [if_neg h, if_neg (fun c => h (EReal.coe_lt_coe_iff.1 c)), hq]

/-- The mean, from the sum. -/
theorem pay7_real (s : ℝ) : k0_pay7 (F := Ideal) (s : EReal) = ((s / 4816896 : ℝ) : EReal) := by
  have e : k0_pay7 (F := Ideal) (s : EReal) = Ideal.div (s : EReal) (Ideal.ofBits .f32 0x4A930000#32) := rfl
  rw [e, size_word, Ideal.div_coe (by norm_num), ← EReal.coe_mul, mul_one_div]

/-- The deviation, from the sum and the sum of squares. -/
theorem pay8_real (s q : ℝ) : k0_pay8 (F := Ideal) (s : EReal) (q : EReal)
    = ((Real.sqrt (max ((q - s * (s / 4816896)) / 4816895) 0) : ℝ) : EReal) := by
  have e : k0_pay8 (F := Ideal) (s : EReal) (q : EReal)
      = Ideal.sqrt (max (Ideal.div ((q : EReal) - (s : EReal) * k0_pay7 (F := Ideal) (s : EReal)) (Ideal.ofBits .f32 0x4A930000#32 - 1)) 0) := by
    pointwise [k0_pay8]
    rfl
  rw [e, pay7_real, size_word, ← EReal.coe_mul, ← EReal.coe_sub, ← EReal.coe_one, ← EReal.coe_sub, Ideal.div_coe (by norm_num),
    ← EReal.coe_mul, ← EReal.coe_zero, coe_max', Ideal.sqrt_coe, if_neg (not_lt.2 (le_max_right _ _)), mul_one_div]
  norm_num

theorem pay9_real (s q r : ℝ) (h : k0_pay8 (F := Ideal) (s : EReal) (q : EReal) = (r : EReal)) :
    k0_pay9 (F := Ideal) (s : EReal) (q : EReal) = ((r + eps : ℝ) : EReal) := by
  have e : k0_pay9 (F := Ideal) (s : EReal) (q : EReal) = k0_pay8 (F := Ideal) (s : EReal) (q : EReal) + Ideal.ofBits .f32 0x2B8CBCCC#32 := rfl
  rw [e, h, eps_word, ← EReal.coe_add]

/-- The sixteen words, from a sum and a sum of squares that have mean `u` and deviation `r`. -/
theorem coefs_real (s q u r : ℝ) (hu : s / 4816896 = u) (hr : Real.sqrt (max ((q - s * (s / 4816896)) / 4816895) 0) = r) :
    coefs (F := Ideal) (s : EReal) (q : EReal) = fun k => ((wordsReal u r k : ℝ) : EReal) := by
  have h7 : k0_pay7 (F := Ideal) (s : EReal) = (u : EReal) := by rw [pay7_real, hu]
  have h8 : k0_pay8 (F := Ideal) (s : EReal) (q : EReal) = (r : EReal) := by rw [pay8_real, hr]
  have h9 := pay9_real s q r h8
  have hE : ∀ (w : BitVec 32) (e : ℝ), Ideal.ofBits .f32 w = (e : EReal) →
      Ideal.ofBits .f32 w * k0_pay9 (F := Ideal) (s : EReal) (q : EReal) = ((e * (r + eps) : ℝ) : EReal) := by
    intro w e hw
    rw [hw, h9, ← EReal.coe_mul]
  have hG : ∀ p (p' : ℝ), p = (p' : EReal) →
      (if k0_pay8 (F := Ideal) (s : EReal) (q : EReal) < Ideal.ofBits .f32 0x2B8CBCCC#32 then 0 else p)
        = ((if r < eps then 0 else p' : ℝ) : EReal) := by
    intro p p' hp
    rw [h8, eps_word]
    exact coe_choice _ _ _ _ _ _ EReal.coe_zero.symm hp
  funext k
  fin_cases k
  · exact hE 0x3E978D50#32 _ edge_word8
  · exact hE 0x3F0E83E4#32 _ edge_word9
  · exact hE 0x3F552546#32 _ edge_word10
  · exact hE 0x3F9075F7#32 _ edge_word11
  · exact hE 0x3FB6594B#32 _ edge_word12
  · exact hE 0x3FEB2FEC#32 _ edge_word13
  · exact hE 0x401938EF#32 _ edge_word14
  · exact (by pointwise [coefs, k0_pay17] : coefs (F := Ideal) (s : EReal) (q : EReal) 7 = _).trans (hG _ _ (hE 0x3E22EB1C#32 _ base_word))
  · exact (by pointwise [coefs, k0_pay18] : coefs (F := Ideal) (s : EReal) (q : EReal) 8 = _).trans (hG _ _ (hE 0x3E8C2F84#32 _ gap_word0))
  · exact (by pointwise [coefs, k0_pay19] : coefs (F := Ideal) (s : EReal) (q : EReal) 9 = _).trans (hG _ _ (hE 0x3E7D8AD8#32 _ gap_word1))
  · exact (by pointwise [coefs, k0_pay20] : coefs (F := Ideal) (s : EReal) (q : EReal) 10 = _).trans (hG _ _ (hE 0x3E9BC01C#32 _ gap_word2))
  · exact (by pointwise [coefs, k0_pay21] : coefs (F := Ideal) (s : EReal) (q : EReal) 11 = _).trans (hG _ _ (hE 0x3E935A86#32 _ gap_word3))
  · exact (by pointwise [coefs, k0_pay22] : coefs (F := Ideal) (s : EReal) (q : EReal) 12 = _).trans (hG _ _ (hE 0x3E9BC018#32 _ gap_word4))
  · exact (by pointwise [coefs, k0_pay4] : coefs (F := Ideal) (s : EReal) (q : EReal) 13 = _).trans (hG _ _ (hE 0x3F057A78#32 _ gap_word5))
  · exact (by pointwise [coefs, k0_pay5] : coefs (F := Ideal) (s : EReal) (q : EReal) 14 = _).trans (hG _ _ (hE 0x3F178D50#32 _ gap_word6))
  · exact (by pointwise [coefs, k0_pay6] : coefs (F := Ideal) (s : EReal) (q : EReal) 15 = _).trans (hG _ _ h7)

/-- The sixteen words of a sample of real numbers. -/
theorem words_real (x : Sample.Batch.Idx → EReal) (f : Sample.Batch.Idx → ℝ) (b : Fin 8) (hx : ∀ i, i 0 = b → x i = (f i : EReal)) :
    wordsAt x b = fun k => ((wordsReal (meanOf f b) (rawOf f b) k : ℝ) : EReal) := by
  have e1 := Sample.total_coe f x b fun k _ => hx _ (Sample.place_zero b k)
  have e2 := Sample.total_coe (fun i => f i * f i) (fun i => x i * x i) b fun k _ => by
    show x _ * x _ = _
    rw [hx _ (Sample.place_zero b k), ← EReal.coe_mul]
  unfold wordsAt
  rw [e1, e2]
  refine coefs_real _ _ _ _ rfl ?_
  have h : Sample.total (fun i => f i * f i) b - Sample.total f b * (Sample.total f b / 4816896) = spread f b := (spread_eq f b).symm
  unfold rawOf
  rw [h, max_eq_left (div_nonneg (spread_nonneg f b) (by norm_num))]

/-- The kernel's arithmetic over real numbers. -/
theorem roundOne_real (w : Fin 16 → ℝ) (v : ℝ) : roundOne (fun k => ((w k : ℝ) : EReal)) (v : EReal) = ((roundReal w v : ℝ) : EReal) := by
  have h : ∀ a e g : ℝ, (if (e : EReal) < (a : EReal) then (g : EReal) else 0) = ((if e < a then g else 0 : ℝ) : EReal) :=
    fun a e g => coe_choice _ _ _ _ _ _ rfl EReal.coe_zero.symm
  unfold roundOne roundReal
  simp only [← EReal.coe_sub, ← EReal.coe_neg, coe_max', h, ← EReal.coe_add]
  refine Eq.trans ?_ (EReal.coe_add _ _).symm
  refine congrArg (fun z : EReal => z + ((w 15 : ℝ) : EReal)) ?_
  refine coe_choice _ 0 _ _ _ _ ?_ rfl
  rw [EReal.coe_sub, EReal.coe_zero]

/-- The kernel's result where the sample's elements are real numbers and the element is off the lower boundaries. -/
theorem kernel_answer (x : Sample.Batch.Idx → EReal) (f : Sample.Batch.Idx → ℝ) (i : Sample.Batch.Idx)
    (hx : ∀ j, j 0 = i 0 → x j = (f j : EReal))
    (h : rawOf f (i 0) < eps ∨ ∀ k : Fin 15, k.val < 8 → (f i - meanOf f (i 0)) / (rawOf f (i 0) + eps) ≠ edge k) :
    roundOne (wordsAt x (i 0)) (x i) = ((answer f (i 0) (f i) : ℝ) : EReal) := by
  rw [words_real x f (i 0) hx, hx i rfl, roundOne_real, round_eq f (i 0) (f i) h]

end Cert.KernelIdeal.Gen

end
-- ==== Proof.RefStages.lean ====
/-
  The reference, cut into named stages: the mean, the centred array, the deviation of the centred array, the normalised
  array, the number of boundaries below, the level, the result.
-/
module

public import proofs.«01_k».proof.Proof.Gen.ReferenceIdeal.Run

@[expose] public section

set_option maxRecDepth 16384

noncomputable section

namespace Cert.ReferenceIdeal.Stage

open Idealize.ShloMosaic Idealize.ShloMosaic.TcCoe Idealize.SL.Sem
open Cert.ReferenceIdeal Cert.ReferenceIdeal.Gen Cert.ReferenceIdeal.Value

variable {F : FTy → Type} [FloatOps F]

/-- A number as an array of one element, and that array at every index of another shape. -/
abbrev word (b : BitVec 32) : FVec F S_ .f32 := constant S_ .f32 b

/-- The mean of each sample. -/
def mean (x : FVec F S8x96x224x224 .f32) : FVec F S8x1x1x1 .f32 :=
  Host.divf (broadcastInDim S8x1x1x1 ![0] bcast_S8_S8x1x1x1_0 (Host.reduceAdd x (word 0x00000000#32) reducesTo_S8x96x224x224_S8_d1_2_3 h_S_))
    (broadcastInDim S8x1x1x1 ![] bcast_S_S8x1x1x1 (word 0x4A930000#32))

/-- Every element less its sample's mean. -/
def centred (x : FVec F S8x96x224x224 .f32) : FVec F S8x96x224x224 .f32 :=
  subf x (broadcastInDim S8x96x224x224 ![0, 1, 2, 3] bcast_S8x1x1x1_S8x96x224x224_0_1_2_3 (mean x))

/-- The same with each sample as one row. -/
def rows (x : FVec F S8x96x224x224 .f32) : FVec F S8x4816896 .f32 :=
  shapeCast _ (centred x) shapeCasts_S8x96x224x224_S8x4816896

/-- The mean of each row. -/
def rowMean (y : FVec F S8x4816896 .f32) : FVec F S8x1 .f32 :=
  Host.divf (broadcastInDim S8x1 ![0] bcast_S8_S8x1_0 (Host.reduceAdd y (word 0x00000000#32) reducesTo_S8x4816896_S8_d1 h_S_))
    (broadcastInDim S8x1 ![] bcast_S_S8x1 (word 0x4A930000#32))

/-- Every element less its row's mean. -/
def rowDev (y : FVec F S8x4816896 .f32) : FVec F S8x4816896 .f32 :=
  subf y (broadcastInDim S8x4816896 ![0, 1] bcast_S8x1_S8x4816896_0_1 (rowMean y))

/-- The number of elements less one. -/
def dof : FVec F S_ .f32 := subf (word 0x4A930000#32) (sitofp .f32 (constantI S_ 32 1#32))

/-- The variance of each row. -/
def rowVar (y : FVec F S8x4816896 .f32) : FVec F S8 .f32 :=
  select (broadcastInDim S8 ![] bcast_S_S8 (cmpf .ogt (dof : FVec F S_ .f32) (word 0x00000000#32)))
    (Host.divf (Host.reduceAdd (mulf (rowDev y) (rowDev y)) (word 0x00000000#32) reducesTo_S8x4816896_S8_d1 h_S_)
      (broadcastInDim S8 ![] bcast_S_S8 dof))
    (broadcastInDim S8 ![] bcast_S_S8 (id (word 0x7FC00000#32)))

/-- The deviation of each sample, -/
def raw (x : FVec F S8x96x224x224 .f32) : FVec F S8x1x1x1 .f32 :=
  shapeCast _ (Host.sqrt (rowVar (rows x))) shapeCasts_S8_S8x1x1x1

/-- and the number that the sample is divided by. -/
def std (r : FVec F S8x1x1x1 .f32) : FVec F S8x1x1x1 .f32 :=
  addf r (broadcastInDim S8x1x1x1 ![] bcast_S_S8x1x1x1 (word 0x2B8CBCCC#32))

/-- The normalised array. -/
def normal (x : FVec F S8x96x224x224 .f32) (s : FVec F S8x1x1x1 .f32) : FVec F S8x96x224x224 .f32 :=
  Host.divf (centred x) (broadcastInDim S8x96x224x224 ![0, 1, 2, 3] bcast_S8x1x1x1_S8x96x224x224_0_1_2_3 s)

/-- The fifteen boundaries and the sixteen levels. -/
def edges : FVec F S15 .f32 := fun i => FloatOps.ofBits .f32 (lit0 (S15.rowMajor i))
def levels : FVec F S16 .f32 := fun i => FloatOps.ofBits .f32 (lit1 (S16.rowMajor i))

/-- Which boundaries are below each element. -/
def below (z : FVec F S8x96x224x224 .f32) : IVec S8x96x224x224x15 1 :=
  cmpf .olt (broadcastInDim S8x96x224x224x15 ![0, 1, 2, 3, 4] bcast_S1x1x1x1x15_S8x96x224x224x15_0_1_2_3_4
      (broadcastInDim S1x1x1x1x15 ![4] bcast_S15_S1x1x1x1x15_4 (edges : FVec F S15 .f32)))
    (broadcastInDim S8x96x224x224x15 ![0, 1, 2, 3, 4] bcast_S8x96x224x224x1_S8x96x224x224x15_0_1_2_3_4
      (broadcastInDim S8x96x224x224x1 ![0, 1, 2, 3] bcast_S8x96x224x224_S8x96x224x224x1_0_1_2_3 z))

/-- How many of them are. -/
def count (p : IVec S8x96x224x224x15 1) : IVec S8x96x224x224 32 :=
  Host.reduce IntOp.addi (extui 32 p natLt_1_32) (constantI S_ 32 0#32) reducesTo_S8x96x224x224x15_S8x96x224x224_d4 h_S_

/-- The number as an index, which a negative one would count from the end. -/
def index (n : IVec S8x96x224x224 32) : IVec S8x96x224x224 32 :=
  select (cmpi .slt n (broadcastInDim S8x96x224x224 ![] bcast_S_S8x96x224x224 (constantI S_ 32 0#32)))
    (addi n (broadcastInDim S8x96x224x224 ![] bcast_S_S8x96x224x224 (constantI S_ 32 16#32))) n

/-- The level at an index. -/
def level (n : IVec S8x96x224x224 32) : FVec F S8x96x224x224 .f32 :=
  Host.gather gather_S16_S8x96x224x224x1_S8x96x224x224_n_0_n_n_0_4_1 (levels : FVec F S16 .f32)
    (broadcastInDim S8x96x224x224x1 ![0, 1, 2, 3] bcast_S8x96x224x224_S8x96x224x224x1_0_1_2_3 n)

/-- The result, zero where the sample is flat. -/
def result (r s u : FVec F S8x1x1x1 .f32) (q : FVec F S8x96x224x224 .f32) : FVec F S8x96x224x224 .f32 :=
  select (broadcastInDim S8x96x224x224 ![0, 1, 2, 3] bcast_S8x1x1x1_S8x96x224x224_0_1_2_3
      (broadcastInDim S8x1x1x1 ![0] bcast_S8_S8x1x1x1_0
        (cmpf .olt (shapeCast _ r shapeCasts_S8x1x1x1_S8) (broadcastInDim S8 ![] bcast_S_S8 (word (F := F) 0x2B8CBCCC#32)))))
    (broadcastInDim S8x96x224x224 ![] bcast_S_S8x96x224x224 (id (word 0x00000000#32)))
    (addf (mulf q (broadcastInDim S8x96x224x224 ![0, 1, 2, 3] bcast_S8x1x1x1_S8x96x224x224_0_1_2_3 s))
      (broadcastInDim S8x96x224x224 ![0, 1, 2, 3] bcast_S8x1x1x1_S8x96x224x224_0_1_2_3 u))

/-- The stages put together. -/
def whole (x : FVec F S8x96x224x224 .f32) : FVec F S8x96x224x224 .f32 :=
  result (raw x) (std (raw x)) (mean x) (level (index (count (below (normal x (std (raw x)))))))

/-- What the reference's run leaves is the stages put together. -/
theorem res_eq (m : (ℓ : Loc nD τ sig) → Buf (Elt F) ℓ) (c : Dev nD) :
    res_main_v35 m c = whole (m ((c.tc : Thread nD τ).loc main_arg0)) := by
  unfold res_main_v35
  rfl

end Cert.ReferenceIdeal.Stage

end
-- ==== Proof.RefReal.lean ====
/-
  The reference's result where the sample's elements are real numbers.
-/
module

public import proofs.«01_k».proof.Proof.RefStages
public import proofs.«01_k».proof.Proof.Equation
public import Idealize.ShloMosaic.Lib.Pipeline.ValueKit
public import Idealize.ShloMosaic.Lib.Pointwise
public import Idealize.ShloMosaic.Lib.IdealHost

@[expose] public section

set_option maxRecDepth 16384

noncomputable section

namespace Cert.ReferenceIdeal.Stage

open Idealize.ShloMosaic Idealize.ShloMosaic.TcCoe Idealize.SL.Sem
open Cert.ReferenceIdeal Cert.ReferenceIdeal.Gen Cert.ReferenceIdeal.Value
open Cert.Equation Cert.Number

/-! ## The stages at an index -/

section Read

variable (x : FVec Ideal S8x96x224x224 .f32)

theorem mean_at (i : S8x1x1x1.Idx) : mean x i
    = Ideal.div (Ideal.hostReduceAdd reducesTo_S8x96x224x224_S8_d1_2_3 x 0 (Idealize.ShloMosaic.ix1 (i 0))) (Ideal.ofBits .f32 0x4A930000#32) := by
  pointwise [mean]

theorem centred_at (i : S8x96x224x224.Idx) : centred x i = x i - mean x (Idealize.ShloMosaic.ix4 (i 0) 0 0 0) := by
  pointwise [centred]

theorem rows_at (b : Fin 8) (k : Fin 4816896) : rows x (Idealize.ShloMosaic.ix2 b k) = centred x (Sample.place b k.val) := by
  have hk := k.isLt
  have e : k.val / 50176 % 96 = k.val / 50176 := Nat.mod_eq_of_lt (by omega)
  unfold Sample.place
  simp only [e]
  pointwise [rows]

theorem rowMean_at (y : FVec Ideal S8x4816896 .f32) (i : S8x1.Idx) :
    rowMean y i = Ideal.div (∑ k : Fin 4816896, y (Idealize.ShloMosaic.ix2 (i 0) k)) (Ideal.ofBits .f32 0x4A930000#32) := by
  pointwise [rowMean]

theorem rowDev_at (y : FVec Ideal S8x4816896 .f32) (b : Fin 8) (k : Fin 4816896) :
    rowDev y (Idealize.ShloMosaic.ix2 b k) = y (Idealize.ShloMosaic.ix2 b k) - rowMean y (Idealize.ShloMosaic.ix2 b 0) := by
  pointwise [rowDev]

theorem rowVar_at (y : FVec Ideal S8x4816896 .f32) (i : S8.Idx) :
    rowVar y i = if 0 < Ideal.ofBits .f32 0x4A930000#32 - FloatOps.sitofp (F := Ideal) .f32 1#32 then
        Ideal.div (∑ k : Fin 4816896, rowDev y (Idealize.ShloMosaic.ix2 (i 0) k) * rowDev y (Idealize.ShloMosaic.ix2 (i 0) k))
          (Ideal.ofBits .f32 0x4A930000#32 - FloatOps.sitofp (F := Ideal) .f32 1#32)
      else (id (word (F := Ideal) 2143289344#32)) Idealize.ShloMosaic.ix0 := by
  pointwise [rowVar, dof]

theorem raw_at (i : S8x1x1x1.Idx) : raw x i = Ideal.sqrt (rowVar (rows x) (Idealize.ShloMosaic.ix1 (i 0))) := by
  pointwise [raw]

theorem std_at (r : FVec Ideal S8x1x1x1 .f32) (i : S8x1x1x1.Idx) : std r i = r i + Ideal.ofBits .f32 0x2B8CBCCC#32 := by
  pointwise [std]

theorem normal_at (s : FVec Ideal S8x1x1x1 .f32) (i : S8x96x224x224.Idx) :
    normal x s i = Ideal.div (centred x i) (s (Idealize.ShloMosaic.ix4 (i 0) 0 0 0)) := by
  pointwise [normal]

theorem below_at (z : FVec Ideal S8x96x224x224 .f32) (i : S8x96x224x224.Idx) (k : Fin 15) :
    below z (Idealize.ShloMosaic.ix5 (i 0) (i 1) (i 2) (i 3) k)
      = BitVec.ofBool (decide ((edges (F := Ideal)) (Idealize.ShloMosaic.ix1 k) < z i)) := by
  pointwise [below]

theorem count_at (p : IVec S8x96x224x224x15 1) (i : S8x96x224x224.Idx) :
    count p i = Finset.fold IntOp.addi 0#32
      (fun k : Fin 15 => BitVec.setWidth 32 (p (Idealize.ShloMosaic.ix5 (i 0) (i 1) (i 2) (i 3) k))) Finset.univ := by
  pointwise [count]

theorem index_at (n : IVec S8x96x224x224 32) (i : S8x96x224x224.Idx) :
    index n i = Scalar.select (IntOp.cmpi .slt (n i) 0#32) (IntOp.addi (n i) 16#32) (n i) := by
  pointwise [index]

theorem level_at (n : IVec S8x96x224x224 32) (i : S8x96x224x224.Idx) :
    level (F := Ideal) n i = (levels (F := Ideal)) (Idealize.ShloMosaic.ix1 ⟨min (n i).toInt.toNat 15, by omega⟩) := by
  unfold level
  rw [Sample.table_at _ _ rfl rfl rfl rfl rfl rfl rfl]
  have e : broadcastInDim S8x96x224x224x1 ![0, 1, 2, 3] bcast_S8x96x224x224_S8x96x224x224x1_0_1_2_3 n
      (Idealize.ShloMosaic.ix5 (i 0) (i 1) (i 2) (i 3) 0) = n i := by
    pointwise []
  simp only [e]

theorem result_at (r s u : FVec Ideal S8x1x1x1 .f32) (q : FVec Ideal S8x96x224x224 .f32) (i : S8x96x224x224.Idx) :
    result r s u q i = if r (Idealize.ShloMosaic.ix4 (i 0) 0 0 0) < Ideal.ofBits .f32 0x2B8CBCCC#32 then 0
      else q i * s (Idealize.ShloMosaic.ix4 (i 0) 0 0 0) + u (Idealize.ShloMosaic.ix4 (i 0) 0 0 0) := by
  have e : (id (word (F := Ideal) 0#32)) Idealize.ShloMosaic.ix0 = (0 : EReal) := by pointwise [id]
  rw [← e]
  pointwise [result]

end Read

theorem rowMajor_15 (k : Fin 15) : S15.rowMajor (Idealize.ShloMosaic.ix1 k) = k := by
  fin_cases k <;> rfl

theorem rowMajor_16 (k : Fin 16) : S16.rowMajor (Idealize.ShloMosaic.ix1 k) = k := by
  fin_cases k <;> rfl

theorem edges_real (k : Fin 15) : (edges (F := Ideal)) (Idealize.ShloMosaic.ix1 k) = ((edge k : ℝ) : EReal) := by
  have e : (edges (F := Ideal)) (Idealize.ShloMosaic.ix1 k) = Ideal.ofBits .f32 (lit0 (S15.rowMajor (Idealize.ShloMosaic.ix1 k))) := rfl
  rw [e, rowMajor_15]
  fin_cases k
  exacts [edge_word0, edge_word1, edge_word2, edge_word3, edge_word4, edge_word5, edge_word6, edge_word7, edge_word8, edge_word9,
    edge_word10, edge_word11, edge_word12, edge_word13, edge_word14]

theorem levels_real (k : Fin 16) : (levels (F := Ideal)) (Idealize.ShloMosaic.ix1 k) = ((lev k : ℝ) : EReal) := by
  have e : (levels (F := Ideal)) (Idealize.ShloMosaic.ix1 k) = Ideal.ofBits .f32 (lit1 (S16.rowMajor (Idealize.ShloMosaic.ix1 k))) := rfl
  rw [e, rowMajor_16]
  fin_cases k
  exacts [lev_word0, lev_word1, lev_word2, lev_word3, lev_word4, lev_word5, lev_word6, lev_word7, lev_word8, lev_word9,
    lev_word10, lev_word11, lev_word12, lev_word13, lev_word14, lev_word15]

/-! ## Over the real numbers -/

section Real

variable (x : FVec Ideal S8x96x224x224 .f32) (f : Sample.Batch.Idx → ℝ) (b : Fin 8) (hx : ∀ i : Sample.Batch.Idx, i 0 = b → x i = (f i : EReal))

include hx

theorem mean_real (i : S8x1x1x1.Idx) (hi : i 0 = b) : mean x i = ((meanOf f b : ℝ) : EReal) := by
  rw [mean_at, hi, size_word]
  have e := Sample.hostSum reducesTo_S8x96x224x224_S8_d1_2_3 x b
  rw [e, Sample.total_coe f x b fun k _ => hx _ (Sample.place_zero b k), Ideal.div_coe (by norm_num), ← EReal.coe_mul, mul_one_div]
  rfl

theorem centred_real (i : Sample.Batch.Idx) (hi : i 0 = b) : centred x i = ((f i - meanOf f b : ℝ) : EReal) := by
  rw [centred_at, mean_real x f b hx _ hi, hx i hi, ← EReal.coe_sub]

theorem rows_real (k : Fin 4816896) : rows x (Idealize.ShloMosaic.ix2 b k) = ((f (Sample.place b k.val) - meanOf f b : ℝ) : EReal) := by
  rw [rows_at, centred_real x f b hx _ rfl]

theorem rowMean_real : rowMean (rows x) (Idealize.ShloMosaic.ix2 b 0) = ((0 : ℝ) : EReal) := by
  rw [rowMean_at, size_word]
  have e : ∑ k : Fin 4816896, rows x (Idealize.ShloMosaic.ix2 b k) = Sample.total (fun i => ((f i - meanOf f b : ℝ) : EReal)) b :=
    Sample.total_row _ b _ (rows_real x f b hx)
  rw [show (∑ k : Fin 4816896, rows x (Idealize.ShloMosaic.ix2 ((Idealize.ShloMosaic.ix2 b (0 : Fin 1) : S8x1.Idx) 0) k)) = _ from e,
    Sample.total_coe (fun i => f i - meanOf f b) _ b fun _ _ => rfl, total_centred, Ideal.div_coe (by norm_num), ← EReal.coe_mul, zero_mul]

theorem rowDev_real (k : Fin 4816896) : rowDev (rows x) (Idealize.ShloMosaic.ix2 b k) = ((f (Sample.place b k.val) - meanOf f b : ℝ) : EReal) := by
  rw [rowDev_at, rows_real x f b hx, rowMean_real x f b hx, ← EReal.coe_sub, sub_zero]

theorem rowVar_real : rowVar (rows x) (Idealize.ShloMosaic.ix1 b) = ((spread f b / 4816895 : ℝ) : EReal) := by
  have hd : Ideal.ofBits .f32 0x4A930000#32 - FloatOps.sitofp (F := Ideal) .f32 1#32 = ((4816895 : ℝ) : EReal) := by
    rw [size_word, one_word, ← EReal.coe_sub]
    norm_num
  have e : ∑ k : Fin 4816896, rowDev (rows x) (Idealize.ShloMosaic.ix2 b k) * rowDev (rows x) (Idealize.ShloMosaic.ix2 b k)
      = Sample.total (fun i => (((f i - meanOf f b) * (f i - meanOf f b) : ℝ) : EReal)) b :=
    Sample.total_row _ b _ fun k => by rw [rowDev_real x f b hx, ← EReal.coe_mul]
  rw [rowVar_at, hd, if_pos (by rw [← EReal.coe_zero]; exact EReal.coe_lt_coe_iff.2 (by norm_num))]
  rw [show (∑ k : Fin 4816896, rowDev (rows x) (Idealize.ShloMosaic.ix2 ((Idealize.ShloMosaic.ix1 b : S8.Idx) 0) k)
      * rowDev (rows x) (Idealize.ShloMosaic.ix2 ((Idealize.ShloMosaic.ix1 b : S8.Idx) 0) k)) = _ from e,
    Sample.total_coe (fun i => (f i - meanOf f b) * (f i - meanOf f b)) _ b fun _ _ => rfl, Ideal.div_coe (by norm_num), ← EReal.coe_mul, mul_one_div]
  rfl

theorem raw_real (i : S8x1x1x1.Idx) (hi : i 0 = b) : raw x i = ((rawOf f b : ℝ) : EReal) := by
  rw [raw_at, hi, rowVar_real x f b hx, Ideal.sqrt_coe, if_neg (not_lt.2 (div_nonneg (spread_nonneg f b) (by norm_num)))]
  rfl

theorem std_real (i : S8x1x1x1.Idx) (hi : i 0 = b) : std (raw x) i = ((rawOf f b + eps : ℝ) : EReal) := by
  rw [std_at, raw_real x f b hx i hi, eps_word, ← EReal.coe_add]

theorem normal_real (i : Sample.Batch.Idx) (hi : i 0 = b) :
    normal x (std (raw x)) i = (((f i - meanOf f b) / (rawOf f b + eps) : ℝ) : EReal) := by
  have hs : rawOf f b + eps ≠ 0 := (add_pos_of_nonneg_of_pos (Real.sqrt_nonneg _) eps_pos).ne'
  rw [normal_at, centred_real x f b hx i hi, std_real x f b hx _ hi, Ideal.div_coe hs, ← EReal.coe_mul, mul_one_div]

end Real

theorem numBelow_le (z : ℝ) : numBelow z ≤ 15 :=
  (Finset.card_filter_le _ _).trans (by simp)

/-- The number of boundaries below a real number, counted as the reference counts it. -/
theorem count_real (y : FVec Ideal S8x96x224x224 .f32) (i : S8x96x224x224.Idx) (z : ℝ) (hz : y i = (z : EReal)) :
    count (below y) i = BitVec.ofNat 32 (numBelow z) := by
  rw [count_at, Sample.fold_count Finset.univ (fun k : Fin 15 => edge k < z)]
  · rfl
  · intro k
    rw [below_at, edges_real, hz]
    congr 2
    exact decide_eq_decide.2 EReal.coe_lt_coe_iff

/-- The index, and the level there. -/
theorem level_real (n : IVec S8x96x224x224 32) (i : S8x96x224x224.Idx) (c : ℕ) (hc : c ≤ 15) (h : n i = BitVec.ofNat 32 c) :
    level (F := Ideal) (index n) i = ((levAt c : ℝ) : EReal) := by
  have e : index n i = BitVec.ofNat 32 c := by
    rw [index_at, h]
    interval_cases c <;> rfl
  have e2 : (BitVec.ofNat 32 c).toInt.toNat = c := by
    interval_cases c <;> rfl
  rw [level_at, levels_real]
  simp only [e, e2]
  rfl

/-- The reference's result where the sample's elements are real numbers. -/
theorem whole_answer (x : FVec Ideal S8x96x224x224 .f32) (f : Sample.Batch.Idx → ℝ) (i : Sample.Batch.Idx)
    (hx : ∀ j : Sample.Batch.Idx, j 0 = i 0 → x j = (f j : EReal)) :
    whole x i = ((answer f (i 0) (f i) : ℝ) : EReal) := by
  have e : whole x i = _ := result_at (raw x) (std (raw x)) (mean x) (level (index (count (below (normal x (std (raw x))))))) i
  rw [e, raw_real x f (i 0) hx _ rfl, std_real x f (i 0) hx _ rfl, mean_real x f (i 0) hx _ rfl, eps_word,
    level_real _ i _ (numBelow_le _) (count_real _ i _ (normal_real x f (i 0) hx i rfl)), ← EReal.coe_mul, ← EReal.coe_add]
  unfold answer
  by_cases h : rawOf f (i 0) < eps
  · rw [if_pos h, if_pos (EReal.coe_lt_coe_iff.2 h), EReal.coe_zero]
  · rw [if_neg h, if_neg (fun c => h (EReal.coe_lt_coe_iff.1 c))]

end Cert.ReferenceIdeal.Stage

end
-- ==== Proof.MaskReal.lean ====
/-
  What the predicate on the argument says of an element: its sample holds real numbers only, and the element, normalised, is none of
  the eight boundaries up to zero unless the sample is flat.
-/
module

public import proofs.«01_k».proof.Defs
public import proofs.«01_k».proof.Proof.Equation
public import Idealize.ShloMosaic.Lib.Pipeline.ValueKit
public import Idealize.ShloMosaic.Lib.Pointwise
public import Idealize.ShloMosaic.Lib.IdealHost

@[expose] public section

set_option maxRecDepth 16384

noncomputable section

namespace Cert.Mask

open Idealize.ShloMosaic Idealize.ShloMosaic.TcCoe Idealize.SL.Sem
open Cert.On_off_ties Cert.On_off_ties.Facts
open Cert.Equation Cert.Number

/-! ## The predicate in stages -/

section Stages

variable {F : FTy → Type} [FloatOps F] [Cert.On_off_ties.Facts]

/-- A number at every sample. -/
abbrev each (w : BitVec 32) : FVec F S8x1x1x1 .f32 := broadcastInDim S8x1x1x1 ![] bcast_S_S8x1x1x1 (constant S_ .f32 w)

/-- A sample's number at its elements. -/
abbrev spreadOut {α : Type} (v : S8x1x1x1.Idx → α) : S8x96x224x224.Idx → α :=
  broadcastInDim S8x96x224x224 ![0, 1, 2, 3] bcast_S8x1x1x1_S8x96x224x224_0_1_2_3 v

/-- Whether an element is finite. -/
def small (x : FVec F S8x96x224x224 .f32) : IVec S8x96x224x224 1 :=
  cmpf .olt (Host.absf x) (broadcastInDim S8x96x224x224 ![] bcast_S_S8x96x224x224 (constant S_ .f32 0x7F800000#32))

/-- Whether all of a sample's elements are. -/
def finite (p : IVec S8x96x224x224 1) : IVec S8x1x1x1 1 :=
  broadcastInDim S8x1x1x1 ![0] bcast_S8_S8x1x1x1_0 (Host.reduce IntOp.andi p (constantI S_ 1 1#1) reducesTo_S8x96x224x224_S8_d1_2_3 h_S_)

/-- A sample's sum. -/
def sum (x : FVec F S8x96x224x224 .f32) : FVec F S8x1x1x1 .f32 :=
  broadcastInDim S8x1x1x1 ![0] bcast_S8_S8x1x1x1_0 (Host.reduceAdd x (constant S_ .f32 0x00000000#32) reducesTo_S8x96x224x224_S8_d1_2_3 h_S_)

/-- The elements less their sample's mean. -/
def centred (x : FVec F S8x96x224x224 .f32) : FVec F S8x96x224x224 .f32 := subf x (spreadOut (Host.divf (sum x) (each 0x4A930000#32)))

/-- A sample's deviation. -/
def raw (x : FVec F S8x96x224x224 .f32) : FVec F S8x1x1x1 .f32 :=
  Host.sqrt (Host.divf (sum (mulf (centred x) (centred x))) (each 0x4A92FFFE#32))

/-- The elements normalised. -/
def normal (x : FVec F S8x96x224x224 .f32) : FVec F S8x96x224x224 .f32 :=
  Host.divf (centred x) (spreadOut (addf (raw x) (each 0x2B8CBCCC#32)))

/-- The boundaries up to zero. -/
def lows : FVec F S8 .f32 := fun i => FloatOps.ofBits .f32 (lit0 (S8.rowMajor i))

/-- Which of the boundaries an element is. -/
def equals (z : FVec F S8x96x224x224 .f32) : IVec S8x96x224x224x8 1 :=
  cmpf .oeq
    (broadcastInDim S8x96x224x224x8 ![0, 1, 2, 3, 4] bcast_S8x96x224x224x1_S8x96x224x224x8_0_1_2_3_4
      (broadcastInDim S8x96x224x224x1 ![0, 1, 2, 3] bcast_S8x96x224x224_S8x96x224x224x1_0_1_2_3 z))
    (broadcastInDim S8x96x224x224x8 ![0, 1, 2, 3, 4] bcast_S1x1x1x1x8_S8x96x224x224x8_0_1_2_3_4
      (broadcastInDim S1x1x1x1x8 ![4] bcast_S8_S1x1x1x1x8_4 lows))

/-- Whether an element is one of the boundaries. -/
def tie (p : IVec S8x96x224x224x8 1) : IVec S8x96x224x224 1 :=
  Host.reduce IntOp.ori p (constantI S_ 1 0#1) reducesTo_S8x96x224x224x8_S8x96x224x224_d4 h_S_

/-- The last stage. -/
def final (a : IVec S8x1x1x1 1) (r : FVec F S8x1x1x1 .f32) (t : IVec S8x96x224x224 1) : IVec S8x96x224x224 1 :=
  andi (spreadOut a) (ori (spreadOut (cmpf .olt r (each 0x2B8CBCCC#32))) (noti t))

theorem fn_eq (x : FVec F S8x96x224x224 .f32) : Cert.On_off_ties.fn x = final (finite (small x)) (raw x) (tie (equals (normal x))) := rfl

end Stages

/-! ## The stages at an index -/

section Read

variable [Cert.On_off_ties.Facts] (x : FVec Ideal S8x96x224x224 .f32)

theorem small_at (i : S8x96x224x224.Idx) :
    small x i = BitVec.ofBool (decide (max (x i) (-(x i)) < Ideal.ofBits .f32 0x7F800000#32)) := by
  pointwise [small]
  rfl

theorem finite_at (p : IVec S8x96x224x224 1) (i : S8x1x1x1.Idx) :
    finite p i = Host.reduce IntOp.andi p (constantI S_ 1 1#1) reducesTo_S8x96x224x224_S8_d1_2_3 h_S_ (Idealize.ShloMosaic.ix1 (i 0)) := by
  pointwise [finite]

theorem sum_at (i : S8x1x1x1.Idx) :
    sum x i = Ideal.hostReduceAdd reducesTo_S8x96x224x224_S8_d1_2_3 x 0 (Idealize.ShloMosaic.ix1 (i 0)) := by
  pointwise [sum]

theorem centred_at (i : S8x96x224x224.Idx) :
    centred x i = x i - Ideal.div (sum x (Idealize.ShloMosaic.ix4 (i 0) 0 0 0)) (Ideal.ofBits .f32 0x4A930000#32) := by
  pointwise [centred]

theorem raw_at (i : S8x1x1x1.Idx) :
    raw x i = Ideal.sqrt (Ideal.div (sum (mulf (centred x) (centred x)) i) (Ideal.ofBits .f32 0x4A92FFFE#32)) := by
  pointwise [raw]

theorem normal_at (i : S8x96x224x224.Idx) :
    normal x i = Ideal.div (centred x i) (raw x (Idealize.ShloMosaic.ix4 (i 0) 0 0 0) + Ideal.ofBits .f32 0x2B8CBCCC#32) := by
  pointwise [normal]

theorem equals_at (z : FVec Ideal S8x96x224x224 .f32) (i : S8x96x224x224.Idx) (k : Fin 8) :
    equals z (Idealize.ShloMosaic.ix5 (i 0) (i 1) (i 2) (i 3) k)
      = BitVec.ofBool (decide (z i = (lows (F := Ideal)) (Idealize.ShloMosaic.ix1 k))) := by
  pointwise [equals]

theorem tie_at (p : IVec S8x96x224x224x8 1) (i : S8x96x224x224.Idx) :
    tie p i = Finset.fold IntOp.ori 0#1 (fun k : Fin 8 => p (Idealize.ShloMosaic.ix5 (i 0) (i 1) (i 2) (i 3) k)) Finset.univ := by
  pointwise [tie]

theorem final_at (a : IVec S8x1x1x1 1) (r : FVec Ideal S8x1x1x1 .f32) (t : IVec S8x96x224x224 1) (i : S8x96x224x224.Idx) :
    final a r t i = IntOp.andi (a (Idealize.ShloMosaic.ix4 (i 0) 0 0 0))
      (IntOp.ori (BitVec.ofBool (decide (r (Idealize.ShloMosaic.ix4 (i 0) 0 0 0) < Ideal.ofBits .f32 0x2B8CBCCC#32))) (~~~ t i)) := by
  pointwise [final]

end Read

theorem rowMajor_8 (k : Fin 8) : S8.rowMajor (Idealize.ShloMosaic.ix1 k) = k := by
  fin_cases k <;> rfl

theorem lows_real (k : Fin 8) : (lows (F := Ideal)) (Idealize.ShloMosaic.ix1 k) = ((edge ⟨k.val, by omega⟩ : ℝ) : EReal) := by
  have e : (lows (F := Ideal)) (Idealize.ShloMosaic.ix1 k) = Ideal.ofBits .f32 (lit0 (S8.rowMajor (Idealize.ShloMosaic.ix1 k))) := rfl
  rw [e, rowMajor_8]
  fin_cases k
  exacts [edge_word0, edge_word1, edge_word2, edge_word3, edge_word4, edge_word5, edge_word6, edge_word7]

/-! ## What the bits say -/

theorem bits_split (a b t : BitVec 1) (h : IntOp.andi a (IntOp.ori b (~~~ t)) = 1#1) : a = 1#1 ∧ (b = 1#1 ∨ t = 0#1) := by
  revert a b t; decide

theorem bit_true (p : Prop) [Decidable p] (h : BitVec.ofBool (decide p) = 1#1) : p := by
  by_contra c
  rw [decide_eq_false c] at h
  exact absurd h (by decide)

/-- A number less than infinity either way is real. -/
theorem real_of_small (v : EReal) (h : max v (-v) < ⊤) : v = ((v.toReal : ℝ) : EReal) := by
  have h1 := lt_of_le_of_lt (le_max_left _ _) h
  have h2 := lt_of_le_of_lt (le_max_right _ _) h
  refine (EReal.coe_toReal h1.ne ?_).symm
  rintro rfl
  exact absurd h2 (by simp)

section Real

variable [Cert.On_off_ties.Facts] (x : FVec Ideal S8x96x224x224 .f32)

/-- A sample that passes the first test holds real numbers. -/
theorem finite_real (b : Fin 8) (h : finite (small x) (Idealize.ShloMosaic.ix4 b 0 0 0) = 1#1) (j : Sample.Batch.Idx) (hj : j 0 = b) :
    x j = (((x j).toReal : ℝ) : EReal) := by
  rw [finite_at, Host.reduce_eq_fold] at h
  have h' := (Sample.fold_and _ (fun i => max (x i) (-(x i)) < Ideal.ofBits .f32 0x7F800000#32) (small x) (small_at x)).1 h j
    (Finset.mem_filter.2 ⟨Finset.mem_univ _, (Sample.drop_iff reducesTo_S8x96x224x224_S8_d1_2_3 j b).2 hj⟩)
  rw [inf_word] at h'
  exact real_of_small _ h'

variable (f : Sample.Batch.Idx → ℝ) (b : Fin 8) (hx : ∀ i : Sample.Batch.Idx, i 0 = b → x i = (f i : EReal))

include hx

theorem sum_real (i : S8x1x1x1.Idx) (hi : i 0 = b) : sum x i = ((Sample.total f b : ℝ) : EReal) := by
  rw [sum_at, hi]
  exact (Sample.hostSum reducesTo_S8x96x224x224_S8_d1_2_3 x b).trans (Sample.total_coe f x b fun k _ => hx _ (Sample.place_zero b k))

theorem centred_real (i : Sample.Batch.Idx) (hi : i 0 = b) : centred x i = ((f i - meanOf f b : ℝ) : EReal) := by
  rw [centred_at, sum_real x f b hx _ hi, hx i hi, size_word, Ideal.div_coe (by norm_num), ← EReal.coe_mul, ← EReal.coe_sub, mul_one_div]
  rfl

theorem raw_real (i : S8x1x1x1.Idx) (hi : i 0 = b) : raw x i = ((rawOf f b : ℝ) : EReal) := by
  have e : ∀ j : Sample.Batch.Idx, j 0 = b →
      mulf (centred x) (centred x) j = (((f j - meanOf f b) * (f j - meanOf f b) : ℝ) : EReal) := fun j hj => by
    show centred x j * centred x j = _
    rw [centred_real x f b hx j hj, ← EReal.coe_mul]
  rw [raw_at, sum_real _ (fun j => (f j - meanOf f b) * (f j - meanOf f b)) b e i hi, show Sample.total (fun j => (f j - meanOf f b) * (f j - meanOf f b)) b = spread f b from rfl, less_word, Ideal.div_coe (by norm_num),
    ← EReal.coe_mul, mul_one_div, Ideal.sqrt_coe,
    if_neg (not_lt.2 (div_nonneg (spread_nonneg f b) (by norm_num)))]
  rfl

theorem normal_real (i : Sample.Batch.Idx) (hi : i 0 = b) : normal x i = (((f i - meanOf f b) / (rawOf f b + eps) : ℝ) : EReal) := by
  have hs : rawOf f b + eps ≠ 0 := (add_pos_of_nonneg_of_pos (Real.sqrt_nonneg _) eps_pos).ne'
  rw [normal_at, centred_real x f b hx i hi, raw_real x f b hx _ hi, eps_word, ← EReal.coe_add, Ideal.div_coe hs, ← EReal.coe_mul, mul_one_div]

end Real

/-- What the predicate says of an element it selects. -/
theorem selected [Cert.On_off_ties.Facts] (x : FVec Ideal S8x96x224x224 .f32) (i : Sample.Batch.Idx) (h : Cert.On_off_ties.fn x i = 1#1) :
    (∀ j : Sample.Batch.Idx, j 0 = i 0 → x j = (((x j).toReal : ℝ) : EReal))
      ∧ (rawOf (fun j => (x j).toReal) (i 0) < eps ∨ ∀ k : Fin 15, k.val < 8 →
        ((x i).toReal - meanOf (fun j => (x j).toReal) (i 0)) / (rawOf (fun j => (x j).toReal) (i 0) + eps) ≠ edge k) := by
  rw [fn_eq, final_at] at h
  obtain ⟨h1, h2⟩ := bits_split _ _ _ h
  have hx : ∀ j : Sample.Batch.Idx, j 0 = i 0 → x j = (((x j).toReal : ℝ) : EReal) := fun j hj => finite_real x (i 0) h1 j hj
  refine ⟨hx, h2.imp (fun h3 => ?_) fun h3 k hk hc => ?_⟩
  · have h4 := bit_true _ h3
    rw [raw_real x (fun j => (x j).toReal) (i 0) hx _ rfl, eps_word] at h4
    exact EReal.coe_lt_coe_iff.1 h4
  · rw [tie_at] at h3
    have h4 := (Sample.fold_or _ (fun k : Fin 8 => normal x i = (lows (F := Ideal)) (Idealize.ShloMosaic.ix1 k)) _ (equals_at (normal x) i)).1 h3
      ⟨k.val, hk⟩ (Finset.mem_univ _)
    refine h4 ?_
    rw [lows_real, normal_real x (fun j => (x j).toReal) (i 0) hx i rfl, hc]

end Cert.Mask

end
-- ==== Proof.lean ====
/-
  The claims, from the modules of Proof/. What runs at all is in Frames; what the kernel's run leaves at an index is in
  ApplyValue, and over real numbers in KernelReal; what the reference's run leaves is in RefStages, and over real numbers in
  RefReal; what the predicate selects is in MaskReal. Where it selects, both values are `Cert.Equation.answer`.
-/
module

public import proofs.«01_k».proof.Proof.Frames
public import proofs.«01_k».proof.Proof.KernelReal
public import proofs.«01_k».proof.Proof.RefReal
public import proofs.«01_k».proof.Proof.MaskReal

@[expose] public section

noncomputable section

namespace Cert.Proof

open Idealize.ShloMosaic Idealize.SL.Sem

/-- The predicate as a precondition and as a mask is one function. -/
theorem same_predicate (x : FVec Ideal Cert.On_off_ties.S8x96x224x224 .f32) :
    @Cert.Pre_off_ties.fn preFacts Ideal _ x = @Cert.On_off_ties.fn onFacts Ideal _ x := rfl

/-- The two results at an element the predicate selects: the same array, read by the kernel's arithmetic and by the reference's. -/
theorem agree (m : (ℓ : Loc Cert.KernelIdeal.nD Cert.KernelIdeal.τ Cert.KernelIdeal.sig) → Buf (Elt Ideal) ℓ)
    (g : Dev Cert.KernelIdeal.nD → PrngReg)
    (m' : (ℓ : Loc Cert.ReferenceIdeal.nD Cert.ReferenceIdeal.τ Cert.ReferenceIdeal.sig) → Buf (Elt Ideal) ℓ)
    (hm : ∀ c : Dev Cert.KernelIdeal.nD,
      m' ((c.tc : Thread Cert.ReferenceIdeal.nD Cert.ReferenceIdeal.τ).loc Cert.ReferenceIdeal.main_arg0)
        = m ((c.tc : Thread Cert.KernelIdeal.nD Cert.KernelIdeal.τ).loc Cert.KernelIdeal.main_arg0))
    (c : Dev Cert.KernelIdeal.nD) (i : (⟨4, ![8, 96, 224, 224]⟩ : Shape).Idx)
    (h : @Cert.On_off_ties.fn onFacts Ideal _
      (m ((c.tc : Thread Cert.KernelIdeal.nD Cert.KernelIdeal.τ).loc Cert.KernelIdeal.main_arg0)) i = 1#1) :
    Cert.ReferenceIdeal.Value.res_main_v35 m' c i
      = Cert.KernelIdeal.Gen.W4 m g c (Proc.devRef .tc Cert.KernelIdeal.main_v3) i := by
  obtain ⟨hx, ht⟩ := @Cert.Mask.selected onFacts _ i h
  have hr := Cert.ReferenceIdeal.Stage.whole_answer
    (m ((c.tc : Thread Cert.KernelIdeal.nD Cert.KernelIdeal.τ).loc Cert.KernelIdeal.main_arg0)) _ i hx
  have hk := Cert.KernelIdeal.Gen.kernel_answer _ _ i hx ht
  rw [Cert.ReferenceIdeal.Stage.res_eq, hm c]
  exact hr.trans (hk.symm.trans (Cert.KernelIdeal.Gen.result_at m g c i).symm)

theorem algebraicOn : Cert.algebraic_KernelIdeal_ReferenceIdeal_on_off_ties (hKernelIdeal := Cert.KernelIdeal.Gen.facts)
    (hReferenceIdeal := Cert.ReferenceIdeal.Gen.facts) (hOn_off_ties := onFacts) := fun m g m' g' _ hm =>
  ⟨fun c => Cert.KernelIdeal.Gen.W4 m g c (Proc.devRef .tc Cert.KernelIdeal.main_v3),
    (θ_run _ _ _).mono (fun r h c => ⟨fun i _ => congrFun (h.1 c).1 i, (h.1 c).2⟩) (Cert.KernelIdeal.Gen.runs m g),
    (θ_run _ _ _).mono (fun r h c => ⟨fun i hi => (congrFun (h c).1 i).trans (agree m g m' hm c i hi), (h c).2⟩)
      (Cert.ReferenceIdeal.Value.run m' g')⟩

theorem algebraicPre : Cert.algebraic_KernelIdeal_ReferenceIdeal_pre_off_ties (hKernelIdeal := Cert.KernelIdeal.Gen.facts)
    (hReferenceIdeal := Cert.ReferenceIdeal.Gen.facts) (hPre_off_ties := preFacts) := fun m g m' g' hp hm =>
  ⟨fun c => Cert.KernelIdeal.Gen.W4 m g c (Proc.devRef .tc Cert.KernelIdeal.main_v3),
    (θ_run _ _ _).mono (fun r h c => ⟨(h.1 c).1, (h.1 c).2⟩) (Cert.KernelIdeal.Gen.runs m g),
    (θ_run _ _ _).mono (fun r h c => ⟨(h c).1.trans (funext fun i =>
        agree m g m' hm c i (congrFun ((same_predicate _).symm.trans (hp c)) i)), (h c).2⟩)
      (Cert.ReferenceIdeal.Value.run m' g')⟩

theorem claim : Cert.Claim :=
  ⟨Cert.Kernel.Gen.facts, Cert.KernelIdeal.Gen.facts, Cert.ReferenceIdeal.Gen.facts, preFacts, onFacts,
    frameKernel, frameIdeal, fun m g _ => frameIdeal m g trivial, frameReference, fun m g _ => frameReference m g trivial,
    trivial, algebraicOn, algebraicPre⟩

end Cert.Proof

end
